-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v36_0)) (v1 : (c : Dev Cert.Kernel2Ideal.nD) → Buf (Elt Ideal) ((c.tc : Thread Cert.Kernel2Ideal.nD Cert.Kernel2Ideal.τ).loc Cert.Kernel2Ideal.main_v36_1)) (v2 : (c : Dev Cert.Kernel2Ideal.nD) → Buf (Elt Ideal) ((c.tc : Thread Cert.Kernel2Ideal.nD Cert.Kernel2Ideal.τ).loc Cert.Kernel2Ideal.main_v36_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36_0) = v0 c
          ∧ r.2.mem ((c.tc : Thread Cert.Kernel2Ideal.nD Cert.Kernel2Ideal.τ).loc Cert.Kernel2Ideal.main_v36_1) = v1 c
          ∧ r.2.mem ((c.tc : Thread Cert.Kernel2Ideal.nD Cert.Kernel2Ideal.τ).loc Cert.Kernel2Ideal.main_v36_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v106) = v0 c
          ∧ r.2.mem ((c.tc : Thread Cert.Reference2Ideal.nD Cert.Reference2Ideal.τ).loc Cert.Reference2Ideal.main_v108) = v1 c
          ∧ r.2.mem ((c.tc : Thread Cert.Reference2Ideal.nD Cert.Reference2Ideal.τ).loc Cert.Reference2Ideal.main_v110) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x2048x768 : Shape := ⟨3, ![4, 2048, 768]⟩
abbrev S4x12x64x64 : Shape := ⟨4, ![4, 12, 64, 64]⟩
abbrev S768x768 : Shape := ⟨2, ![768, 768]⟩
abbrev S768 : Shape := ⟨1, ![768]⟩
abbrev S64 : Shape := ⟨1, ![64]⟩
abbrev S192x128 : Shape := ⟨2, ![192, 128]⟩
abbrev S128 : Shape := ⟨1, ![128]⟩
abbrev S128x64 : Shape := ⟨2, ![128, 64]⟩
abbrev S64x2 : Shape := ⟨2, ![64, 2]⟩
abbrev S2 : Shape := ⟨1, ![2]⟩
abbrev S12 : Shape := ⟨1, ![12]⟩
abbrev S1x768 : Shape := ⟨2, ![1, 768]⟩
abbrev S1x64 : Shape := ⟨2, ![1, 64]⟩
abbrev S12x64 : Shape := ⟨2, ![12, 64]⟩
abbrev S12x12 : Shape := ⟨2, ![12, 12]⟩
abbrev S_ : Shape := ⟨0, ![]⟩
abbrev S12x64x12 : Shape := ⟨3, ![12, 64, 12]⟩
abbrev S768x12 : Shape := ⟨2, ![768, 12]⟩
abbrev S1x256x768 : Shape := ⟨3, ![1, 256, 768]⟩
abbrev S256x768 : Shape := ⟨2, ![256, 768]⟩
abbrev S256 : Shape := ⟨1, ![256]⟩
abbrev S256x1 : Shape := ⟨2, ![256, 1]⟩
abbrev S256x12 : Shape := ⟨2, ![256, 12]⟩
abbrev S12x768 : Shape := ⟨2, ![12, 768]⟩
abbrev S4x2048x12x64 : Shape := ⟨4, ![4, 2048, 12, 64]⟩
abbrev S48x64x64 : Shape := ⟨3, ![48, 64, 64]⟩
abbrev S1x12 : Shape := ⟨2, ![1, 12]⟩
abbrev S4x12 : Shape := ⟨2, ![4, 12]⟩
abbrev S48 : Shape := ⟨1, ![48]⟩
abbrev S48x1 : Shape := ⟨2, ![48, 1]⟩
abbrev S1x48x1x1 : Shape := ⟨4, ![1, 48, 1, 1]⟩
abbrev S1x48x64x1 : Shape := ⟨4, ![1, 48, 64, 1]⟩
abbrev S48x64 : Shape := ⟨2, ![48, 64]⟩
abbrev S64x2x64 : Shape := ⟨3, ![64, 2, 64]⟩
abbrev S64x128 : Shape := ⟨2, ![64, 128]⟩
abbrev S2x64 : Shape := ⟨2, ![2, 64]⟩
abbrev S1x128 : Shape := ⟨2, ![1, 128]⟩
abbrev S256x48x64 : Shape := ⟨3, ![256, 48, 64]⟩
abbrev S4 : Shape := ⟨1, ![4]⟩
abbrev S1 : Shape := ⟨1, ![1]⟩
abbrev S256x12x64 : Shape := ⟨3, ![256, 12, 64]⟩
abbrev S1x256x12x64 : Shape := ⟨4, ![1, 256, 12, 64]⟩
abbrev S1x48x64 : Shape := ⟨3, ![1, 48, 64]⟩
abbrev S48x64x1 : Shape := ⟨3, ![48, 64, 1]⟩
abbrev S48x192 : Shape := ⟨2, ![48, 192]⟩
abbrev S48x128 : Shape := ⟨2, ![48, 128]⟩
abbrev S48x1x1 : Shape := ⟨3, ![48, 1, 1]⟩
abbrev S48x1x64 : Shape := ⟨3, ![48, 1, 64]⟩

abbrev nBuf : Space → Nat
  | .hbm => 126
  | .vmem => 47
  | .smem => 0
  | _ => 0

abbrev bufTy : (tb : Table) → Fin (tcTables nBuf tb) → BufTy
  | .hbm, ⟨0, _⟩ => ⟨S4x2048x768, .f32⟩
  | .hbm, ⟨1, _⟩ => ⟨S4x12x64x64, .f32⟩
  | .hbm, ⟨2, _⟩ => ⟨S4x12x64x64, .f32⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S768, .f32⟩
  | .hbm, ⟨8, _⟩ => ⟨S768, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S192x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S64x2, .f32⟩
  | .hbm, ⟨20, _⟩ => ⟨S2, .f32⟩
  | .hbm, ⟨21, _⟩ => ⟨S12, .f32⟩
  | .hbm, ⟨22, _⟩ => ⟨S12, .f32⟩
  | .hbm, ⟨23, _⟩ => ⟨S768x768, .f32⟩
  | .hbm, ⟨24, _⟩ => ⟨S768, .f32⟩
  | .hbm, ⟨25, _⟩ => ⟨S1x768, .f32⟩
  | .hbm, ⟨26, _⟩ => ⟨S1x768, .f32⟩
  | .hbm, ⟨27, _⟩ => ⟨S1x64, .f32⟩
  | .hbm, ⟨28, _⟩ => ⟨S12x64, .f32⟩
  | .hbm, ⟨29, _⟩ => ⟨S768, .f32⟩
  | .hbm, ⟨30, _⟩ => ⟨S1x768, .f32⟩
  | .hbm, ⟨31, _⟩ => ⟨S1x64, .f32⟩
  | .hbm, ⟨32, _⟩ => ⟨S12x64, .f32⟩
  | .hbm, ⟨33, _⟩ => ⟨S768, .f32⟩
  | .hbm, ⟨34, _⟩ => ⟨S1x768, .f32⟩
  | .hbm, ⟨35, _⟩ => ⟨S1x64, .f32⟩
  | .hbm, ⟨36, _⟩ => ⟨S12x64, .f32⟩
  | .hbm, ⟨37, _⟩ => ⟨S768, .f32⟩
  | .hbm, ⟨38, _⟩ => ⟨S1x768, .f32⟩
  | .hbm, ⟨39, _⟩ => ⟨S1x64, .f32⟩
  | .hbm, ⟨40, _⟩ => ⟨S12x64, .f32⟩
  | .hbm, ⟨41, _⟩ => ⟨S768, .f32⟩
  | .hbm, ⟨42, _⟩ => ⟨S1x768, .f32⟩
  | .hbm, ⟨43, _⟩ => ⟨S1x64, .f32⟩
  | .hbm, ⟨44, _⟩ => ⟨S12x64, .f32⟩
  | .hbm, ⟨45, _⟩ => ⟨S768, .f32⟩
  | .hbm, ⟨46, _⟩ => ⟨S1x768, .f32⟩
  | .hbm, ⟨47, _⟩ => ⟨S1x64, .f32⟩
  | .hbm, ⟨48, _⟩ => ⟨S12x64, .f32⟩
  | .hbm, ⟨49, _⟩ => ⟨S768, .f32⟩
  | .hbm, ⟨50, _⟩ => ⟨S1x768, .f32⟩
  | .hbm, ⟨51, _⟩ => ⟨S12x12, .i32⟩
  | .hbm, ⟨52, _⟩ => ⟨S12x12, .i32⟩
  | .hbm, ⟨53, _⟩ => ⟨S_, .i32⟩
  | .hbm, ⟨54, _⟩ => ⟨S12x12, .i32⟩
  | .hbm, ⟨55, _⟩ => ⟨S12x12, .i32⟩
  | .hbm, ⟨56, _⟩ => ⟨S12x12, .i1⟩
  | .hbm, ⟨57, _⟩ => ⟨S12x12, .f32⟩
  | .hbm, ⟨58, _⟩ => ⟨S12x64x12, .f32⟩
  | .hbm, ⟨59, _⟩ => ⟨S768x12, .f32⟩
  | .hbm, ⟨60, _⟩ => ⟨S_, .f32⟩
  | .hbm, ⟨61, _⟩ => ⟨S768x12, .f32⟩
  | .hbm, ⟨62, _⟩ => ⟨S768x12, .f32⟩
  | .hbm, ⟨63, _⟩ => ⟨S4x2048x768, .f32⟩
  | .hbm, ⟨64, _⟩ => ⟨S4x2048x768, .f32⟩
  | .hbm, ⟨65, _⟩ => ⟨S4x2048x768, .f32⟩
  | .hbm, ⟨66, _⟩ => ⟨S4x2048x12x64, .f32⟩
  | .hbm, ⟨67, _⟩ => ⟨S4x2048x12x64, .f32⟩
  | .hbm, ⟨68, _⟩ => ⟨S4x2048x12x64, .f32⟩
  | .hbm, ⟨69, _⟩ => ⟨S48x64x64, .f32⟩
  | .hbm, ⟨70, _⟩ => ⟨S48x64x64, .f32⟩
  | .hbm, ⟨71, _⟩ => ⟨S48x64x64, .f32⟩
  | .hbm, ⟨72, _⟩ => ⟨S48x64x64, .f32⟩
  | .hbm, ⟨73, _⟩ => ⟨S12, .f32⟩
  | .hbm, ⟨74, _⟩ => ⟨S12, .f32⟩
  | .hbm, ⟨75, _⟩ => ⟨S_, .f32⟩
  | .hbm, ⟨76, _⟩ => ⟨S12, .f32⟩
  | .hbm, ⟨77, _⟩ => ⟨S12, .f32⟩
  | .hbm, ⟨78, _⟩ => ⟨S_, .f32⟩
  | .hbm, ⟨79, _⟩ => ⟨S12, .f32⟩
  | .hbm, ⟨80, _⟩ => ⟨S12, .f32⟩
  | .hbm, ⟨81, _⟩ => ⟨S_, .f32⟩
  | .hbm, ⟨82, _⟩ => ⟨S12, .f32⟩
  | .hbm, ⟨83, _⟩ => ⟨S12, .f32⟩
  | .hbm, ⟨84, _⟩ => ⟨S12, .f32⟩
  | .hbm, ⟨85, _⟩ => ⟨S12, .f32⟩
  | .hbm, ⟨86, _⟩ => ⟨S_, .f32⟩
  | .hbm, ⟨87, _⟩ => ⟨S12, .f32⟩
  | .hbm, ⟨88, _⟩ => ⟨S12, .f32⟩
  | .hbm, ⟨89, _⟩ => ⟨S_, .f32⟩
  | .hbm, ⟨90, _⟩ => ⟨S12, .f32⟩
  | .hbm, ⟨91, _⟩ => ⟨S12, .f32⟩
  | .hbm, ⟨92, _⟩ => ⟨S_, .f32⟩
  | .hbm, ⟨93, _⟩ => ⟨S12, .f32⟩
  | .hbm, ⟨94, _⟩ => ⟨S12, .f32⟩
  | .hbm, ⟨95, _⟩ => ⟨S1x12, .f32⟩
  | .hbm, ⟨96, _⟩ => ⟨S4x12, .f32⟩
  | .hbm, ⟨97, _⟩ => ⟨S48, .f32⟩
  | .hbm, ⟨98, _⟩ => ⟨S48x1, .f32⟩
  | .hbm, ⟨99, _⟩ => ⟨S1x48x1x1, .f32⟩
  | .hbm, ⟨100, _⟩ => ⟨S1x48x64x1, .f32⟩
  | .hbm, ⟨101, _⟩ => ⟨S48x64, .f32⟩
  | .hbm, ⟨102, _⟩ => ⟨S1x12, .f32⟩
  | .hbm, ⟨103, _⟩ => ⟨S4x12, .f32⟩
  | .hbm, ⟨104, _⟩ => ⟨S48, .f32⟩
  | .hbm, ⟨105, _⟩ => ⟨S48x1, .f32⟩
  | .hbm, ⟨106, _⟩ => ⟨S1x48x1x1, .f32⟩
  | .hbm, ⟨107, _⟩ => ⟨S1x48x64x1, .f32⟩
  | .hbm, ⟨108, _⟩ => ⟨S48x64, .f32⟩
  | .hbm, ⟨109, _⟩ => ⟨S64x2x64, .f32⟩
  | .hbm, ⟨110, _⟩ => ⟨S64x128, .f32⟩
  | .hbm, ⟨111, _⟩ => ⟨S2x64, .f32⟩
  | .hbm, ⟨112, _⟩ => ⟨S128, .f32⟩
  | .hbm, ⟨113, _⟩ => ⟨S1x128, .f32⟩
  | .hbm, ⟨114, _⟩ => ⟨S1x128, .f32⟩
  | .hbm, ⟨115, _⟩ => ⟨S1x64, .f32⟩
  | .hbm, ⟨116, _⟩ => ⟨S4x2048x12x64, .f32⟩
  | .hbm, ⟨117, _⟩ => ⟨S48x64x64, .f32⟩
  | .hbm, ⟨118, _⟩ => ⟨S48x64x64, .f32⟩
  | .hbm, ⟨119, _⟩ => ⟨S1x768, .f32⟩
  | .hbm, ⟨120, _⟩ => ⟨S4x2048x768, .f32⟩
  | .hbm, ⟨121, _⟩ => ⟨S4x2048x768, .f32⟩
  | .hbm, ⟨122, _⟩ => ⟨S48x64x64, .f32⟩
  | .hbm, ⟨123, _⟩ => ⟨S4x12x64x64, .f32⟩
  | .hbm, ⟨124, _⟩ => ⟨S48x64x64, .f32⟩
  | .hbm, ⟨125, _⟩ => ⟨S4x12x64x64, .f32⟩
  | .local _ .vmem, ⟨0, _⟩ => ⟨S1x256x768, .f32⟩
  | .local _ .vmem, ⟨1, _⟩ => ⟨S1x256x768, .f32⟩
  | .local _ .vmem, ⟨2, _⟩ => ⟨S768x768, .f32⟩
  | .local _ .vmem, ⟨3, _⟩ => ⟨S768x768, .f32⟩
  | .local _ .vmem, ⟨4, _⟩ => ⟨S768x768, .f32⟩
  | .local _ .vmem, ⟨5, _⟩ => ⟨S1x768, .f32⟩
  | .local _ .vmem, ⟨6, _⟩ => ⟨S1x768, .f32⟩
  | .local _ .vmem, ⟨7, _⟩ => ⟨S768x12, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .vmem, ⟨18, _⟩ => ⟨S1x256x768, .f32⟩
  | .local _ .vmem, ⟨19, _⟩ => ⟨S1x256x768, .f32⟩
  | .local _ .vmem, ⟨20, _⟩ => ⟨S48x64x64, .f32⟩
  | .local _ .vmem, ⟨21, _⟩ => ⟨S48x64x64, .f32⟩
  | .local _ .vmem, ⟨22, _⟩ => ⟨S192x128, .f32⟩
  | .local _ .vmem, ⟨23, _⟩ => ⟨S1x128, .f32⟩
  | .local _ .vmem, ⟨24, _⟩ => ⟨S128x64, .f32⟩
  | .local _ .vmem, ⟨25, _⟩ => ⟨S1x64, .f32⟩
  | .local _ .vmem, ⟨26, _⟩ => ⟨S64x128, .f32⟩
  | .local _ .vmem, ⟨27, _⟩ => ⟨S1x128, .f32⟩
  | .local _ .vmem, ⟨28, _⟩ => ⟨S48x64, .f32⟩
  | .local _ .vmem, ⟨29, _⟩ => ⟨S48x64, .f32⟩
  | .local _ .vmem, ⟨30, _⟩ => ⟨S48x64x64, .f32⟩
  | .local _ .vmem, ⟨31, _⟩ => ⟨S48x64x64, .f32⟩
  | .local _ .vmem, ⟨32, _⟩ => ⟨S256x48x64, .f32⟩
  | .local _ .vmem, ⟨33, _⟩ => ⟨S256x48x64, .f32⟩
  | .local _ .vmem, ⟨34, _⟩ => ⟨S256x48x64, .f32⟩
  | .local _ .vmem, ⟨35, _⟩ => ⟨S256x48x64, .f32⟩
  | .local _ .vmem, ⟨36, _⟩ => ⟨S1x256x768, .f32⟩
  | .local _ .vmem, ⟨37, _⟩ => ⟨S1x256x768, .f32⟩
  | .local _ .vmem, ⟨38, _⟩ => ⟨S1x256x768, .f32⟩
  | .local _ .vmem, ⟨39, _⟩ => ⟨S1x256x768, .f32⟩
  | .local _ .vmem, ⟨40, _⟩ => ⟨S768x768, .f32⟩
  | .local _ .vmem, ⟨41, _⟩ => ⟨S768x768, .f32⟩
  | .local _ .vmem, ⟨42, _⟩ => ⟨S1x768, .f32⟩
  | .local _ .vmem, ⟨43, _⟩ => ⟨S1x768, .f32⟩
  | .local _ .vmem, ⟨44, _⟩ => ⟨S1x768, .f32⟩
  | .local _ .vmem, ⟨45, _⟩ => ⟨S1x256x768, .f32⟩
  | .local _ .vmem, ⟨46, _⟩ => ⟨S1x256x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst : Ref sig .tc := ⟨.hbm, 60, rfl⟩
abbrev main_v34 : Ref sig .tc := ⟨.hbm, 61, rfl⟩
abbrev main_v35 : Ref sig .tc := ⟨.hbm, 62, rfl⟩
abbrev main_v36_0 : Ref sig .tc := ⟨.hbm, 63, rfl⟩
abbrev main_v36_1 : Ref sig .tc := ⟨.hbm, 64, rfl⟩
abbrev main_v36_2 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_0 : Ref sig .tc := ⟨.hbm, 75, rfl⟩
abbrev main_v46 : Ref sig .tc := ⟨.hbm, 76, rfl⟩
abbrev main_v47 : Ref sig .tc := ⟨.hbm, 77, rfl⟩
abbrev main_cst_1 : Ref sig .tc := ⟨.hbm, 78, rfl⟩
abbrev main_v48 : Ref sig .tc := ⟨.hbm, 79, rfl⟩
abbrev main_v49 : Ref sig .tc := ⟨.hbm, 80, rfl⟩
abbrev main_cst_2 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_3 : Ref sig .tc := ⟨.hbm, 86, rfl⟩
abbrev main_v54 : Ref sig .tc := ⟨.hbm, 87, rfl⟩
abbrev main_v55 : Ref sig .tc := ⟨.hbm, 88, rfl⟩
abbrev main_cst_4 : Ref sig .tc := ⟨.hbm, 89, rfl⟩
abbrev main_v56 : Ref sig .tc := ⟨.hbm, 90, rfl⟩
abbrev main_v57 : Ref sig .tc := ⟨.hbm, 91, rfl⟩
abbrev main_cst_5 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81_0 : Ref sig .tc := ⟨.hbm, 116, rfl⟩
abbrev main_v81_1 : Ref sig .tc := ⟨.hbm, 117, rfl⟩
abbrev main_v81_2 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_scratch0 : Ref sig .tc := ⟨.vmem, 32, rfl⟩
abbrev cc1_scratch1 : Ref sig .tc := ⟨.vmem, 33, rfl⟩
abbrev cc1_scratch2 : Ref sig .tc := ⟨.vmem, 34, rfl⟩
abbrev cc1_scratch3 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg7_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc1_sem0_0 : DmaSem sig := 20
abbrev cc1_sem1_0 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc2_sem0_0 : DmaSem sig := 48
abbrev cc2_sem0_1 : DmaSem sig := 49
abbrev cc2_sem1_0 : DmaSem sig := 50
abbrev cc2_sem1_1 : DmaSem sig := 51
abbrev cc2_sem2_0 : DmaSem sig := 52
abbrev cc2_sem3_0 : DmaSem sig := 53
abbrev cc2_sem4_0 : DmaSem sig := 54
abbrev cc2_sem5_0 : DmaSem sig := 55
abbrev cc2_sem6_0 : DmaSem sig := 56
abbrev cc2_sem7_0 : DmaSem sig := 57
abbrev cc2_sem7_1 : DmaSem sig := 58

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S768x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 2 → Memref sig .tc .vmem S1x256x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x256x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x256x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev grid1 : Pipeline.Grid := ⟨1, ![8], ![false]⟩

def k1_off1 (i : grid1.Coords) : Fin 4 → Nat :=
  let c0_i32_1 : BitVec 32 := 0#32
  let arg0 : BitVec 32 := BitVec.ofNat 32 (i 0).val
  let c256_i32 : BitVec 32 := 256#32
  let v3 : BitVec 32 := Scalar.muli arg0 c256_i32
  let c0_i32_6 : BitVec 32 := 0#32
  let c0_i32_7 : BitVec 32 := 0#32
  ![0, v3.toNat, 0, 0]
def k1_off2 (i : grid1.Coords) : Fin 4 → Nat :=
  let c1_i32 : BitVec 32 := 1#32
  let arg0 : BitVec 32 := BitVec.ofNat 32 (i 0).val
  let c256_i32_8 : BitVec 32 := 256#32
  let v9 : BitVec 32 := Scalar.muli arg0 c256_i32_8
  let c0_i32_12 : BitVec 32 := 0#32
  let c0_i32_13 : BitVec 32 := 0#32
  ![1, v9.toNat, 0, 0]
def k1_off3 (i : grid1.Coords) : Fin 4 → Nat :=
  let c2_i32 : BitVec 32 := 2#32
  let arg0 : BitVec 32 := BitVec.ofNat 32 (i 0).val
  let c256_i32_14 : BitVec 32 := 256#32
  let v15 : BitVec 32 := Scalar.muli arg0 c256_i32_14
  let c0_i32_18 : BitVec 32 := 0#32
  let c0_i32_19 : BitVec 32 := 0#32
  ![2, v15.toNat, 0, 0]
def k1_off4 (i : grid1.Coords) : Fin 4 → Nat :=
  let c3_i32 : BitVec 32 := 3#32
  let arg0 : BitVec 32 := BitVec.ofNat 32 (i 0).val
  let c256_i32_20 : BitVec 32 := 256#32
  let v21 : BitVec 32 := Scalar.muli arg0 c256_i32_20
  let c0_i32_24 : BitVec 32 := 0#32
  let c0_i32_25 : BitVec 32 := 0#32
  ![3, v21.toNat, 0, 0]
@[reducible] def k1_t1_loop : Scf.Loop 32 :=
  let c0_i32_181 : BitVec 32 := 0#32
  let c256_i32_182 : BitVec 32 := 256#32
  let v149 : BitVec 32 := Scalar.addi c0_i32_181 c256_i32_182
  let c1_i32_183 : BitVec 32 := 1#32
  ⟨c0_i32_181, v149, c1_i32_183⟩
def k1_off5 (k1_t1 : Fin k1_t1_loop.trips) : Fin 3 → Nat :=
  let c0_i32_181 : BitVec 32 := 0#32
  let c1_i32_183 : BitVec 32 := 1#32
  let arg23 : BitVec 32 := Scf.iv c0_i32_181 c1_i32_183 k1_t1
  let v198 : Index := Scalar.indexCast arg23
  let c0_251 : Index := 0#32
  let c0_252 : Index := 0#32
  ![v198.toNat, 0, 0]
def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S48x64x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S48x64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S192x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S48x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S48x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S48x64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S48x64x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨3, ![2, 2, 8], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

abbrev stage2_0 : Fin 2 → Memref sig .tc .vmem S1x256x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x256x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 1 → Memref sig .tc .vmem S768x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 1 → Memref sig .tc .vmem S768x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, false]

abbrev stage2_6 : Fin 1 → Memref sig .tc .vmem S1x768 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false, false]

abbrev stage2_7 : Fin 2 → Memref sig .tc .vmem S1x256x768 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, true]
-- ==== ReferenceIdeal.lean ====
abbrev S4x2048x768 : Shape := ⟨3, ![4, 2048, 768]⟩
abbrev S4x12x64x64 : Shape := ⟨4, ![4, 12, 64, 64]⟩
abbrev S768x768 : Shape := ⟨2, ![768, 768]⟩
abbrev S768 : Shape := ⟨1, ![768]⟩
abbrev S64 : Shape := ⟨1, ![64]⟩
abbrev S192x128 : Shape := ⟨2, ![192, 128]⟩
abbrev S128 : Shape := ⟨1, ![128]⟩
abbrev S128x64 : Shape := ⟨2, ![128, 64]⟩
abbrev S64x2 : Shape := ⟨2, ![64, 2]⟩
abbrev S2 : Shape := ⟨1, ![2]⟩
abbrev S12 : Shape := ⟨1, ![12]⟩
abbrev S_ : Shape := ⟨0, ![]⟩
abbrev S4x2048 : Shape := ⟨2, ![4, 2048]⟩
abbrev S4x2048x1 : Shape := ⟨3, ![4, 2048, 1]⟩
abbrev S1x1x768 : Shape := ⟨3, ![1, 1, 768]⟩
abbrev S4x2048x12x64 : Shape := ⟨4, ![4, 2048, 12, 64]⟩
abbrev S4x12x2048x64 : Shape := ⟨4, ![4, 12, 2048, 64]⟩
abbrev S4x12x2048 : Shape := ⟨3, ![4, 12, 2048]⟩
abbrev S4x12x2048x1 : Shape := ⟨4, ![4, 12, 2048, 1]⟩
abbrev S1x1x1x64 : Shape := ⟨4, ![1, 1, 1, 64]⟩
abbrev S1x12x1x1 : Shape := ⟨4, ![1, 12, 1, 1]⟩
abbrev S2048x4x12x64 : Shape := ⟨4, ![2048, 4, 12, 64]⟩
abbrev S1x4x12x64 : Shape := ⟨4, ![1, 4, 12, 64]⟩
abbrev S4x12x64 : Shape := ⟨3, ![4, 12, 64]⟩
abbrev S4x12x192 : Shape := ⟨3, ![4, 12, 192]⟩
abbrev S4x12x128 : Shape := ⟨3, ![4, 12, 128]⟩
abbrev S1x1x128 : Shape := ⟨3, ![1, 1, 128]⟩
abbrev S1x1x64 : Shape := ⟨3, ![1, 1, 64]⟩
abbrev S4x12x2 : Shape := ⟨3, ![4, 12, 2]⟩
abbrev S1x1x2 : Shape := ⟨3, ![1, 1, 2]⟩
abbrev S4x12x1 : Shape := ⟨3, ![4, 12, 1]⟩
abbrev S4x12x1x1 : Shape := ⟨4, ![4, 12, 1, 1]⟩
abbrev S4x12 : Shape := ⟨2, ![4, 12]⟩
abbrev S4x12x64x1 : Shape := ⟨4, ![4, 12, 64, 1]⟩
abbrev S4x12x1x64 : Shape := ⟨4, ![4, 12, 1, 64]⟩

abbrev nBuf : Space → Nat
  | .hbm => 354
  | .vmem => 0
  | .smem => 0
  | _ => 0

abbrev hbmTy0_0 (i : Nat) : BufTy := match i % 128 with
  | 0 => ⟨S4x2048x768, .f32⟩
  | 1 => ⟨S4x12x64x64, .f32⟩
  | 2 => ⟨S4x12x64x64, .f32⟩
  | 3 => ⟨S768x768, .f32⟩
  | 4 => ⟨S768x768, .f32⟩
  | 5 => ⟨S768x768, .f32⟩
  | 6 => ⟨S768x768, .f32⟩
  | 7 => ⟨S768, .f32⟩
  | 8 => ⟨S768, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S192x128, .f32⟩
  | 16 => ⟨S128, .f32⟩
  | 17 => ⟨S128x64, .f32⟩
  | 18 => ⟨S64, .f32⟩
  | 19 => ⟨S64x2, .f32⟩
  | 20 => ⟨S2, .f32⟩
  | 21 => ⟨S12, .f32⟩
  | 22 => ⟨S12, .f32⟩
  | 23 => ⟨S768x768, .f32⟩
  | 24 => ⟨S768, .f32⟩
  | 25 => ⟨S_, .f32⟩
  | 26 => ⟨S4x2048, .f32⟩
  | 27 => ⟨S4x2048x1, .f32⟩
  | 28 => ⟨S_, .f32⟩
  | 29 => ⟨S4x2048x1, .f32⟩
  | 30 => ⟨S4x2048x1, .f32⟩
  | 31 => ⟨S4x2048x768, .f32⟩
  | 32 => ⟨S4x2048x768, .f32⟩
  | 33 => ⟨S4x2048x768, .f32⟩
  | 34 => ⟨S_, .f32⟩
  | 35 => ⟨S4x2048, .f32⟩
  | 36 => ⟨S4x2048x1, .f32⟩
  | 37 => ⟨S_, .f32⟩
  | 38 => ⟨S4x2048x1, .f32⟩
  | 39 => ⟨S4x2048x1, .f32⟩
  | 40 => ⟨S4x2048x768, .f32⟩
  | 41 => ⟨S4x2048x768, .f32⟩
  | 42 => ⟨S_, .f32⟩
  | 43 => ⟨S4x2048x1, .f32⟩
  | 44 => ⟨S4x2048x1, .f32⟩
  | 45 => ⟨S4x2048x1, .f32⟩
  | 46 => ⟨S4x2048x768, .f32⟩
  | 47 => ⟨S4x2048x768, .f32⟩
  | 48 => ⟨S1x1x768, .f32⟩
  | 49 => ⟨S4x2048x768, .f32⟩
  | 50 => ⟨S4x2048x768, .f32⟩
  | 51 => ⟨S1x1x768, .f32⟩
  | 52 => ⟨S4x2048x768, .f32⟩
  | 53 => ⟨S4x2048x768, .f32⟩
  | 54 => ⟨S4x2048x768, .f32⟩
  | 55 => ⟨S4x2048x12x64, .f32⟩
  | 56 => ⟨S4x12x2048x64, .f32⟩
  | 57 => ⟨S_, .f32⟩
  | 58 => ⟨S4x12x2048, .f32⟩
  | 59 => ⟨S4x12x2048x1, .f32⟩
  | 60 => ⟨S_, .f32⟩
  | 61 => ⟨S4x12x2048x1, .f32⟩
  | 62 => ⟨S4x12x2048x1, .f32⟩
  | 63 => ⟨S4x12x2048x64, .f32⟩
  | 64 => ⟨S4x12x2048x64, .f32⟩
  | 65 => ⟨S4x12x2048x64, .f32⟩
  | 66 => ⟨S_, .f32⟩
  | 67 => ⟨S4x12x2048, .f32⟩
  | 68 => ⟨S4x12x2048x1, .f32⟩
  | 69 => ⟨S_, .f32⟩
  | 70 => ⟨S4x12x2048x1, .f32⟩
  | 71 => ⟨S4x12x2048x1, .f32⟩
  | 72 => ⟨S4x12x2048x64, .f32⟩
  | 73 => ⟨S4x12x2048x64, .f32⟩
  | 74 => ⟨S_, .f32⟩
  | 75 => ⟨S4x12x2048x1, .f32⟩
  | 76 => ⟨S4x12x2048x1, .f32⟩
  | 77 => ⟨S4x12x2048x1, .f32⟩
  | 78 => ⟨S4x12x2048x64, .f32⟩
  | 79 => ⟨S4x12x2048x64, .f32⟩
  | 80 => ⟨S1x1x1x64, .f32⟩
  | 81 => ⟨S4x12x2048x64, .f32⟩
  | 82 => ⟨S4x12x2048x64, .f32⟩
  | 83 => ⟨S1x1x1x64, .f32⟩
  | 84 => ⟨S4x12x2048x64, .f32⟩
  | 85 => ⟨S4x12x2048x64, .f32⟩
  | 86 => ⟨S4x2048x768, .f32⟩
  | 87 => ⟨S4x2048x12x64, .f32⟩
  | 88 => ⟨S4x12x2048x64, .f32⟩
  | 89 => ⟨S_, .f32⟩
  | 90 => ⟨S4x12x2048, .f32⟩
  | 91 => ⟨S4x12x2048x1, .f32⟩
  | 92 => ⟨S_, .f32⟩
  | 93 => ⟨S4x12x2048x1, .f32⟩
  | 94 => ⟨S4x12x2048x1, .f32⟩
  | 95 => ⟨S4x12x2048x64, .f32⟩
  | 96 => ⟨S4x12x2048x64, .f32⟩
  | 97 => ⟨S4x12x2048x64, .f32⟩
  | 98 => ⟨S_, .f32⟩
  | 99 => ⟨S4x12x2048, .f32⟩
  | 100 => ⟨S4x12x2048x1, .f32⟩
  | 101 => ⟨S_, .f32⟩
  | 102 => ⟨S4x12x2048x1, .f32⟩
  | 103 => ⟨S4x12x2048x1, .f32⟩
  | 104 => ⟨S4x12x2048x64, .f32⟩
  | 105 => ⟨S4x12x2048x64, .f32⟩
  | 106 => ⟨S_, .f32⟩
  | 107 => ⟨S4x12x2048x1, .f32⟩
  | 108 => ⟨S4x12x2048x1, .f32⟩
  | 109 => ⟨S4x12x2048x1, .f32⟩
  | 110 => ⟨S4x12x2048x64, .f32⟩
  | 111 => ⟨S4x12x2048x64, .f32⟩
  | 112 => ⟨S1x1x1x64, .f32⟩
  | 113 => ⟨S4x12x2048x64, .f32⟩
  | 114 => ⟨S4x12x2048x64, .f32⟩
  | 115 => ⟨S1x1x1x64, .f32⟩
  | 116 => ⟨S4x12x2048x64, .f32⟩
  | 117 => ⟨S4x12x2048x64, .f32⟩
  | 118 => ⟨S4x2048x768, .f32⟩
  | 119 => ⟨S4x2048x12x64, .f32⟩
  | 120 => ⟨S4x12x2048x64, .f32⟩
  | 121 => ⟨S_, .f32⟩
  | 122 => ⟨S4x12x2048, .f32⟩
  | 123 => ⟨S4x12x2048x1, .f32⟩
  | 124 => ⟨S_, .f32⟩
  | 125 => ⟨S4x12x2048x1, .f32⟩
  | 126 => ⟨S4x12x2048x1, .f32⟩
  | 127 => ⟨S4x12x2048x64, .f32⟩
  | _ => ⟨S4x2048x768, .f32⟩

abbrev hbmTy0_1 (i : Nat) : BufTy := match i % 128 with
  | 0 => ⟨S4x12x2048x64, .f32⟩
  | 1 => ⟨S4x12x2048x64, .f32⟩
  | 2 => ⟨S_, .f32⟩
  | 3 => ⟨S4x12x2048, .f32⟩
  | 4 => ⟨S4x12x2048x1, .f32⟩
  | 5 => ⟨S_, .f32⟩
  | 6 => ⟨S4x12x2048x1, .f32⟩
  | 7 => ⟨S4x12x2048x1, .f32⟩
  | 8 => ⟨S4x12x2048x64, .f32⟩
  | 9 => ⟨S4x12x2048x64, .f32⟩
  | 10 => ⟨S_, .f32⟩
  | 11 => ⟨S4x12x2048x1, .f32⟩
  | 12 => ⟨S4x12x2048x1, .f32⟩
  | 13 => ⟨S4x12x2048x1, .f32⟩
  | 14 => ⟨S4x12x2048x64, .f32⟩
  | 15 => ⟨S4x12x2048x64, .f32⟩
  | 16 => ⟨S1x1x1x64, .f32⟩
  | 17 => ⟨S4x12x2048x64, .f32⟩
  | 18 => ⟨S4x12x2048x64, .f32⟩
  | 19 => ⟨S1x1x1x64, .f32⟩
  | 20 => ⟨S4x12x2048x64, .f32⟩
  | 21 => ⟨S4x12x2048x64, .f32⟩
  | 22 => ⟨S12, .f32⟩
  | 23 => ⟨S12, .f32⟩
  | 24 => ⟨S_, .f32⟩
  | 25 => ⟨S12, .f32⟩
  | 26 => ⟨S12, .f32⟩
  | 27 => ⟨S_, .f32⟩
  | 28 => ⟨S12, .f32⟩
  | 29 => ⟨S12, .f32⟩
  | 30 => ⟨S1x12x1x1, .f32⟩
  | 31 => ⟨S_, .f32⟩
  | 32 => ⟨S1x12x1x1, .f32⟩
  | 33 => ⟨S1x12x1x1, .f32⟩
  | 34 => ⟨S_, .f32⟩
  | 35 => ⟨S1x12x1x1, .f32⟩
  | 36 => ⟨S1x12x1x1, .f32⟩
  | 37 => ⟨S12, .f32⟩
  | 38 => ⟨S12, .f32⟩
  | 39 => ⟨S_, .f32⟩
  | 40 => ⟨S12, .f32⟩
  | 41 => ⟨S12, .f32⟩
  | 42 => ⟨S_, .f32⟩
  | 43 => ⟨S12, .f32⟩
  | 44 => ⟨S12, .f32⟩
  | 45 => ⟨S1x12x1x1, .f32⟩
  | 46 => ⟨S_, .f32⟩
  | 47 => ⟨S1x12x1x1, .f32⟩
  | 48 => ⟨S1x12x1x1, .f32⟩
  | 49 => ⟨S2048x4x12x64, .f32⟩
  | 50 => ⟨S2048x4x12x64, .f32⟩
  | 51 => ⟨S2048x4x12x64, .f32⟩
  | 52 => ⟨S_, .f32⟩
  | 53 => ⟨S2048x4x12x64, .f32⟩
  | 54 => ⟨S_, .i32⟩
  | 55 => ⟨S2048x4x12x64, .f32⟩
  | 56 => ⟨S2048x4x12x64, .f32⟩
  | 57 => ⟨S2048x4x12x64, .f32⟩
  | 58 => ⟨S192x128, .f32⟩
  | 59 => ⟨S128, .f32⟩
  | 60 => ⟨S128x64, .f32⟩
  | 61 => ⟨S64, .f32⟩
  | 62 => ⟨S64x2, .f32⟩
  | 63 => ⟨S2, .f32⟩
  | 64 => ⟨S1x12x1x1, .f32⟩
  | 65 => ⟨S1x12x1x1, .f32⟩
  | 66 => ⟨S_, .i32⟩
  | 67 => ⟨S4x12x64x64, .f32⟩
  | 68 => ⟨S4x12x64x64, .f32⟩
  | 69 => ⟨S2048x4x12x64, .f32⟩
  | 70 => ⟨S_, .i32⟩
  | 71 => ⟨S_, .i1⟩
  | 72 => ⟨S_, .i32⟩
  | 73 => ⟨S_, .i32⟩
  | 74 => ⟨S_, .i32⟩
  | 75 => ⟨S1x4x12x64, .f32⟩
  | 76 => ⟨S4x12x64, .f32⟩
  | 77 => ⟨S_, .i32⟩
  | 78 => ⟨S_, .i32⟩
  | 79 => ⟨S_, .i32⟩
  | 80 => ⟨S1x4x12x64, .f32⟩
  | 81 => ⟨S4x12x64, .f32⟩
  | 82 => ⟨S_, .i32⟩
  | 83 => ⟨S_, .i32⟩
  | 84 => ⟨S_, .i32⟩
  | 85 => ⟨S1x4x12x64, .f32⟩
  | 86 => ⟨S4x12x64, .f32⟩
  | 87 => ⟨S4x12x64, .f32⟩
  | 88 => ⟨S4x12x64, .f32⟩
  | 89 => ⟨S4x12x64, .f32⟩
  | 90 => ⟨S4x12x192, .f32⟩
  | 91 => ⟨S4x12x128, .f32⟩
  | 92 => ⟨S1x1x128, .f32⟩
  | 93 => ⟨S4x12x128, .f32⟩
  | 94 => ⟨S4x12x128, .f32⟩
  | 95 => ⟨S_, .f32⟩
  | 96 => ⟨S4x12x128, .f32⟩
  | 97 => ⟨S4x12x128, .f32⟩
  | 98 => ⟨S4x12x128, .f32⟩
  | 99 => ⟨S_, .f32⟩
  | 100 => ⟨S4x12x128, .f32⟩
  | 101 => ⟨S4x12x128, .f32⟩
  | 102 => ⟨S4x12x128, .f32⟩
  | 103 => ⟨S4x12x128, .f32⟩
  | 104 => ⟨S4x12x64, .f32⟩
  | 105 => ⟨S1x1x64, .f32⟩
  | 106 => ⟨S4x12x64, .f32⟩
  | 107 => ⟨S4x12x64, .f32⟩
  | 108 => ⟨S_, .f32⟩
  | 109 => ⟨S4x12x64, .f32⟩
  | 110 => ⟨S4x12x64, .f32⟩
  | 111 => ⟨S4x12x64, .f32⟩
  | 112 => ⟨S_, .f32⟩
  | 113 => ⟨S4x12x64, .f32⟩
  | 114 => ⟨S4x12x64, .f32⟩
  | 115 => ⟨S4x12x64, .f32⟩
  | 116 => ⟨S4x12x64, .f32⟩
  | 117 => ⟨S4x12x2, .f32⟩
  | 118 => ⟨S1x1x2, .f32⟩
  | 119 => ⟨S4x12x2, .f32⟩
  | 120 => ⟨S4x12x2, .f32⟩
  | 121 => ⟨S4x12x2, .f32⟩
  | 122 => ⟨S4x12x2, .f32⟩
  | 123 => ⟨S_, .f32⟩
  | 124 => ⟨S4x12x2, .f32⟩
  | 125 => ⟨S4x12x2, .f32⟩
  | 126 => ⟨S_, .f32⟩
  | 127 => ⟨S4x12x2, .f32⟩
  | _ => ⟨S4x2048x768, .f32⟩

abbrev hbmTy0_2 (i : Nat) : BufTy := match i % 128 with
  | 0 => ⟨S4x12x2, .f32⟩
  | 1 => ⟨S4x12x1, .f32⟩
  | 2 => ⟨S4x12x1x1, .f32⟩
  | 3 => ⟨S_, .f32⟩
  | 4 => ⟨S4x12x1x1, .f32⟩
  | 5 => ⟨S4x12x1x1, .f32⟩
  | 6 => ⟨S4x12x1x1, .f32⟩
  | 7 => ⟨S4x12x1x1, .f32⟩
  | 8 => ⟨S4x12x1, .f32⟩
  | 9 => ⟨S4x12x1x1, .f32⟩
  | 10 => ⟨S_, .f32⟩
  | 11 => ⟨S4x12x1x1, .f32⟩
  | 12 => ⟨S4x12x1x1, .f32⟩
  | 13 => ⟨S4x12x1x1, .f32⟩
  | 14 => ⟨S4x12x1x1, .f32⟩
  | 15 => ⟨S4x12x64, .f32⟩
  | 16 => ⟨S_, .f32⟩
  | 17 => ⟨S4x12, .f32⟩
  | 18 => ⟨S4x12x1, .f32⟩
  | 19 => ⟨S4x12x1, .f32⟩
  | 20 => ⟨S_, .f32⟩
  | 21 => ⟨S4x12x1, .f32⟩
  | 22 => ⟨S4x12x1, .f32⟩
  | 23 => ⟨S4x12x64, .f32⟩
  | 24 => ⟨S4x12x64, .f32⟩
  | 25 => ⟨S4x12x64, .f32⟩
  | 26 => ⟨S4x12x64x1, .f32⟩
  | 27 => ⟨S4x12x1x64, .f32⟩
  | 28 => ⟨S4x12x64x64, .f32⟩
  | 29 => ⟨S4x12x64x64, .f32⟩
  | 30 => ⟨S4x12x64x64, .f32⟩
  | 31 => ⟨S4x12x64x1, .f32⟩
  | 32 => ⟨S4x12x1x64, .f32⟩
  | 33 => ⟨S4x12x64x64, .f32⟩
  | 34 => ⟨S4x12x64x64, .f32⟩
  | 35 => ⟨S4x12x64x64, .f32⟩
  | 36 => ⟨S_, .f32⟩
  | 37 => ⟨S4x12x64x64, .f32⟩
  | 38 => ⟨S4x12x64x64, .f32⟩
  | 39 => ⟨S4x12x64x64, .f32⟩
  | 40 => ⟨S4x12x64x64, .f32⟩
  | 41 => ⟨S4x12x64x64, .f32⟩
  | 42 => ⟨S4x12x64x64, .f32⟩
  | 43 => ⟨S4x12x64x64, .f32⟩
  | 44 => ⟨S4x12x64x64, .f32⟩
  | 45 => ⟨S4x12x64x64, .f32⟩
  | 46 => ⟨S1x4x12x64, .f32⟩
  | 47 => ⟨S_, .i32⟩
  | 48 => ⟨S_, .i32⟩
  | 49 => ⟨S_, .i32⟩
  | 50 => ⟨S2048x4x12x64, .f32⟩
  | 51 => ⟨S_, .i32⟩
  | 52 => ⟨S_, .i32⟩
  | 53 => ⟨S4x2048x12x64, .f32⟩
  | 54 => ⟨S4x2048x768, .f32⟩
  | 55 => ⟨S4x2048x768, .f32⟩
  | 56 => ⟨S_, .f32⟩
  | 57 => ⟨S4x2048, .f32⟩
  | 58 => ⟨S4x2048x1, .f32⟩
  | 59 => ⟨S_, .f32⟩
  | 60 => ⟨S4x2048x1, .f32⟩
  | 61 => ⟨S4x2048x1, .f32⟩
  | 62 => ⟨S4x2048x768, .f32⟩
  | 63 => ⟨S4x2048x768, .f32⟩
  | 64 => ⟨S4x2048x768, .f32⟩
  | 65 => ⟨S_, .f32⟩
  | 66 => ⟨S4x2048, .f32⟩
  | 67 => ⟨S4x2048x1, .f32⟩
  | 68 => ⟨S_, .f32⟩
  | 69 => ⟨S4x2048x1, .f32⟩
  | 70 => ⟨S4x2048x1, .f32⟩
  | 71 => ⟨S4x2048x768, .f32⟩
  | 72 => ⟨S4x2048x768, .f32⟩
  | 73 => ⟨S_, .f32⟩
  | 74 => ⟨S4x2048x1, .f32⟩
  | 75 => ⟨S4x2048x1, .f32⟩
  | 76 => ⟨S4x2048x1, .f32⟩
  | 77 => ⟨S4x2048x768, .f32⟩
  | 78 => ⟨S4x2048x768, .f32⟩
  | 79 => ⟨S1x1x768, .f32⟩
  | 80 => ⟨S4x2048x768, .f32⟩
  | 81 => ⟨S4x2048x768, .f32⟩
  | 82 => ⟨S1x1x768, .f32⟩
  | 83 => ⟨S4x2048x768, .f32⟩
  | 84 => ⟨S4x2048x768, .f32⟩
  | 85 => ⟨S4x2048x768, .f32⟩
  | 86 => ⟨S1x1x768, .f32⟩
  | 87 => ⟨S4x2048x768, .f32⟩
  | 88 => ⟨S4x2048x768, .f32⟩
  | 89 => ⟨S4x2048x768, .f32⟩
  | 90 => ⟨S4x2048x768, .f32⟩
  | 91 => ⟨S_, .f32⟩
  | 92 => ⟨S4x2048x768, .f32⟩
  | 93 => ⟨S4x2048x768, .f32⟩
  | 94 => ⟨S_, .f32⟩
  | 95 => ⟨S4x2048x768, .f32⟩
  | 96 => ⟨S4x2048x768, .f32⟩
  | 97 => ⟨S4x2048x768, .f32⟩
  | _ => ⟨S4x2048x768, .f32⟩

abbrev hbmTy (i : Nat) : BufTy := match i / 128 with
  | 0 => hbmTy0_0 i
  | 1 => hbmTy0_1 i
  | 2 => hbmTy0_2 i
  | _ => ⟨S4x2048x768, .f32⟩

abbrev bufTy : (tb : Table) → Fin (tcTables nBuf tb) → BufTy
  | .hbm, ⟨i, _⟩ => hbmTy i
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_cst_2 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_3 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_4 : Ref sig .tc := ⟨.hbm, 57, rfl⟩
abbrev main_v27 : Ref sig .tc := ⟨.hbm, 58, rfl⟩
abbrev main_v28 : Ref sig .tc := ⟨.hbm, 59, rfl⟩
abbrev main_cst_5 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_6 : Ref sig .tc := ⟨.hbm, 66, rfl⟩
abbrev main_v34 : Ref sig .tc := ⟨.hbm, 67, rfl⟩
abbrev main_v35 : Ref sig .tc := ⟨.hbm, 68, rfl⟩
abbrev main_cst_7 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_8 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_9 : Ref sig .tc := ⟨.hbm, 89, rfl⟩
abbrev main_v54 : Ref sig .tc := ⟨.hbm, 90, rfl⟩
abbrev main_v55 : Ref sig .tc := ⟨.hbm, 91, rfl⟩
abbrev main_cst_10 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_11 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_13 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_14 : Ref sig .tc := ⟨.hbm, 121, rfl⟩
abbrev main_v81 : Ref sig .tc := ⟨.hbm, 122, rfl⟩
abbrev main_v82 : Ref sig .tc := ⟨.hbm, 123, rfl⟩
abbrev main_cst_15 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_16 : Ref sig .tc := ⟨.hbm, 130, rfl⟩
abbrev main_v88 : Ref sig .tc := ⟨.hbm, 131, rfl⟩
abbrev main_v89 : Ref sig .tc := ⟨.hbm, 132, rfl⟩
abbrev main_cst_17 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_18 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_19 : Ref sig .tc := ⟨.hbm, 152, rfl⟩
abbrev main_v107 : Ref sig .tc := ⟨.hbm, 153, rfl⟩
abbrev main_v108 : Ref sig .tc := ⟨.hbm, 154, rfl⟩
abbrev main_cst_20 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_21 : Ref sig .tc := ⟨.hbm, 159, rfl⟩
abbrev main_v112 : Ref sig .tc := ⟨.hbm, 160, rfl⟩
abbrev main_v113 : Ref sig .tc := ⟨.hbm, 161, rfl⟩
abbrev main_cst_22 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_23 : Ref sig .tc := ⟨.hbm, 167, rfl⟩
abbrev main_v118 : Ref sig .tc := ⟨.hbm, 168, rfl⟩
abbrev main_v119 : Ref sig .tc := ⟨.hbm, 169, rfl⟩
abbrev main_cst_24 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_25 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_26 : Ref sig .tc := ⟨.hbm, 180, rfl⟩
abbrev main_v128 : Ref sig .tc := ⟨.hbm, 181, rfl⟩
abbrev main_c : Ref sig .tc := ⟨.hbm, 182, rfl⟩
abbrev main_v129_0 : Ref sig .tc := ⟨.hbm, 183, rfl⟩
abbrev main_v129_1 : Ref sig .tc := ⟨.hbm, 184, rfl⟩
abbrev main_v129_2 : Ref sig .tc := ⟨.hbm, 185, rfl⟩
abbrev main_v129_3 : Ref sig .tc := ⟨.hbm, 186, rfl⟩
abbrev main_v129_4 : Ref sig .tc := ⟨.hbm, 187, rfl⟩
abbrev main_v129_5 : Ref sig .tc := ⟨.hbm, 188, rfl⟩
abbrev main_v129_6 : Ref sig .tc := ⟨.hbm, 189, rfl⟩
abbrev main_v129_7 : Ref sig .tc := ⟨.hbm, 190, rfl⟩
abbrev main_v129_8 : Ref sig .tc := ⟨.hbm, 191, rfl⟩
abbrev main_v129_9 : Ref sig .tc := ⟨.hbm, 192, rfl⟩
abbrev main_v129_10 : Ref sig .tc := ⟨.hbm, 193, rfl⟩
abbrev main_v129_11 : Ref sig .tc := ⟨.hbm, 194, rfl⟩
abbrev main_v129_12 : Ref sig .tc := ⟨.hbm, 195, rfl⟩
abbrev main_v129_13 : Ref sig .tc := ⟨.hbm, 196, rfl⟩
abbrev main_v129_14 : Ref sig .tc := ⟨.hbm, 197, rfl⟩
abbrev main_while0c_c_48 : Ref sig .tc := ⟨.hbm, 198, rfl⟩
abbrev main_while0c_v168 : Ref sig .tc := ⟨.hbm, 199, rfl⟩
abbrev main_while0b_call0_c : Ref sig .tc := ⟨.hbm, 200, rfl⟩
abbrev main_while0b_call0_c_0 : Ref sig .tc := ⟨.hbm, 201, rfl⟩
abbrev main_while0b_call0_c_1 : Ref sig .tc := ⟨.hbm, 202, rfl⟩
abbrev main_while0b_call0_v0 : Ref sig .tc := ⟨.hbm, 203, rfl⟩
abbrev main_while0b_v168 : Ref sig .tc := ⟨.hbm, 204, rfl⟩
abbrev main_while0b_call1_c : Ref sig .tc := ⟨.hbm, 205, rfl⟩
abbrev main_while0b_call1_c_0 : Ref sig .tc := ⟨.hbm, 206, rfl⟩
abbrev main_while0b_call1_c_1 : Ref sig .tc := ⟨.hbm, 207, rfl⟩
abbrev main_while0b_call1_v0 : Ref sig .tc := ⟨.hbm, 208, rfl⟩
abbrev main_while0b_v169 : Ref sig .tc := ⟨.hbm, 209, rfl⟩
abbrev main_while0b_call2_c : Ref sig .tc := ⟨.hbm, 210, rfl⟩
abbrev main_while0b_call2_c_0 : Ref sig .tc := ⟨.hbm, 211, rfl⟩
abbrev main_while0b_call2_c_1 : Ref sig .tc := ⟨.hbm, 212, rfl⟩
abbrev main_while0b_call2_v0 : Ref sig .tc := ⟨.hbm, 213, rfl⟩
abbrev main_while0b_v170 : Ref sig .tc := ⟨.hbm, 214, rfl⟩
abbrev main_while0b_v171 : Ref sig .tc := ⟨.hbm, 215, rfl⟩
abbrev main_while0b_v172 : Ref sig .tc := ⟨.hbm, 216, rfl⟩
abbrev main_while0b_v173 : Ref sig .tc := ⟨.hbm, 217, rfl⟩
abbrev main_while0b_v174 : Ref sig .tc := ⟨.hbm, 218, rfl⟩
abbrev main_while0b_v175 : Ref sig .tc := ⟨.hbm, 219, rfl⟩
abbrev main_while0b_v176 : Ref sig .tc := ⟨.hbm, 220, rfl⟩
abbrev main_while0b_v177 : Ref sig .tc := ⟨.hbm, 221, rfl⟩
abbrev main_while0b_v178 : Ref sig .tc := ⟨.hbm, 222, rfl⟩
abbrev main_while0b_cst_48 : Ref sig .tc := ⟨.hbm, 223, rfl⟩
abbrev main_while0b_v179 : Ref sig .tc := ⟨.hbm, 224, rfl⟩
abbrev main_while0b_v180 : Ref sig .tc := ⟨.hbm, 225, rfl⟩
abbrev main_while0b_v181 : Ref sig .tc := ⟨.hbm, 226, rfl⟩
abbrev main_while0b_cst_49 : Ref sig .tc := ⟨.hbm, 227, rfl⟩
abbrev main_while0b_v182 : Ref sig .tc := ⟨.hbm, 228, rfl⟩
abbrev main_while0b_v183 : Ref sig .tc := ⟨.hbm, 229, rfl⟩
abbrev main_while0b_v184 : Ref sig .tc := ⟨.hbm, 230, rfl⟩
abbrev main_while0b_v185 : Ref sig .tc := ⟨.hbm, 231, rfl⟩
abbrev main_while0b_v186 : Ref sig .tc := ⟨.hbm, 232, rfl⟩
abbrev main_while0b_v187 : Ref sig .tc := ⟨.hbm, 233, rfl⟩
abbrev main_while0b_v188 : Ref sig .tc := ⟨.hbm, 234, rfl⟩
abbrev main_while0b_v189 : Ref sig .tc := ⟨.hbm, 235, rfl⟩
abbrev main_while0b_cst_50 : Ref sig .tc := ⟨.hbm, 236, rfl⟩
abbrev main_while0b_v190 : Ref sig .tc := ⟨.hbm, 237, rfl⟩
abbrev main_while0b_v191 : Ref sig .tc := ⟨.hbm, 238, rfl⟩
abbrev main_while0b_v192 : Ref sig .tc := ⟨.hbm, 239, rfl⟩
abbrev main_while0b_cst_51 : Ref sig .tc := ⟨.hbm, 240, rfl⟩
abbrev main_while0b_v193 : Ref sig .tc := ⟨.hbm, 241, rfl⟩
abbrev main_while0b_v194 : Ref sig .tc := ⟨.hbm, 242, rfl⟩
abbrev main_while0b_v195 : Ref sig .tc := ⟨.hbm, 243, rfl⟩
abbrev main_while0b_v196 : Ref sig .tc := ⟨.hbm, 244, rfl⟩
abbrev main_while0b_v197 : Ref sig .tc := ⟨.hbm, 245, rfl⟩
abbrev main_while0b_v198 : Ref sig .tc := ⟨.hbm, 246, rfl⟩
abbrev main_while0b_v199 : Ref sig .tc := ⟨.hbm, 247, rfl⟩
abbrev main_while0b_v200 : Ref sig .tc := ⟨.hbm, 248, rfl⟩
abbrev main_while0b_v201 : Ref sig .tc := ⟨.hbm, 249, rfl⟩
abbrev main_while0b_v202 : Ref sig .tc := ⟨.hbm, 250, rfl⟩
abbrev main_while0b_cst_52 : Ref sig .tc := ⟨.hbm, 251, rfl⟩
abbrev main_while0b_v203 : Ref sig .tc := ⟨.hbm, 252, rfl⟩
abbrev main_while0b_v204 : Ref sig .tc := ⟨.hbm, 253, rfl⟩
abbrev main_while0b_cst_53 : Ref sig .tc := ⟨.hbm, 254, rfl⟩
abbrev main_while0b_v205 : Ref sig .tc := ⟨.hbm, 255, rfl⟩
abbrev main_while0b_v206 : Ref sig .tc := ⟨.hbm, 256, rfl⟩
abbrev main_while0b_v207 : Ref sig .tc := ⟨.hbm, 257, rfl⟩
abbrev main_while0b_v208 : Ref sig .tc := ⟨.hbm, 258, rfl⟩
abbrev main_while0b_cst_54 : Ref sig .tc := ⟨.hbm, 259, rfl⟩
abbrev main_while0b_v209 : Ref sig .tc := ⟨.hbm, 260, rfl⟩
abbrev main_while0b_v210 : Ref sig .tc := ⟨.hbm, 261, rfl⟩
abbrev main_while0b_v211 : Ref sig .tc := ⟨.hbm, 262, rfl⟩
abbrev main_while0b_v212 : Ref sig .tc := ⟨.hbm, 263, rfl⟩
abbrev main_while0b_v213 : Ref sig .tc := ⟨.hbm, 264, rfl⟩
abbrev main_while0b_v214 : Ref sig .tc := ⟨.hbm, 265, rfl⟩
abbrev main_while0b_cst_55 : Ref sig .tc := ⟨.hbm, 266, rfl⟩
abbrev main_while0b_v215 : Ref sig .tc := ⟨.hbm, 267, rfl⟩
abbrev main_while0b_v216 : Ref sig .tc := ⟨.hbm, 268, rfl⟩
abbrev main_while0b_v217 : Ref sig .tc := ⟨.hbm, 269, rfl⟩
abbrev main_while0b_v218 : Ref sig .tc := ⟨.hbm, 270, rfl⟩
abbrev main_while0b_call3_v0 : Ref sig .tc := ⟨.hbm, 271, rfl⟩
abbrev main_while0b_call3_cst : Ref sig .tc := ⟨.hbm, 272, rfl⟩
abbrev main_while0b_call3_v1 : Ref sig .tc := ⟨.hbm, 273, rfl⟩
abbrev main_while0b_call3_v2 : Ref sig .tc := ⟨.hbm, 274, rfl⟩
abbrev main_while0b_v219 : Ref sig .tc := ⟨.hbm, 275, rfl⟩
abbrev main_while0b_cst_56 : Ref sig .tc := ⟨.hbm, 276, rfl⟩
abbrev main_while0b_v220 : Ref sig .tc := ⟨.hbm, 277, rfl⟩
abbrev main_while0b_v221 : Ref sig .tc := ⟨.hbm, 278, rfl⟩
abbrev main_while0b_v222 : Ref sig .tc := ⟨.hbm, 279, rfl⟩
abbrev main_while0b_v223 : Ref sig .tc := ⟨.hbm, 280, rfl⟩
abbrev main_while0b_v224 : Ref sig .tc := ⟨.hbm, 281, rfl⟩
abbrev main_while0b_v225 : Ref sig .tc := ⟨.hbm, 282, rfl⟩
abbrev main_while0b_v226 : Ref sig .tc := ⟨.hbm, 283, rfl⟩
abbrev main_while0b_v227 : Ref sig .tc := ⟨.hbm, 284, rfl⟩
abbrev main_while0b_v228 : Ref sig .tc := ⟨.hbm, 285, rfl⟩
abbrev main_while0b_v229 : Ref sig .tc := ⟨.hbm, 286, rfl⟩
abbrev main_while0b_v230 : Ref sig .tc := ⟨.hbm, 287, rfl⟩
abbrev main_while0b_v231 : Ref sig .tc := ⟨.hbm, 288, rfl⟩
abbrev main_while0b_v232 : Ref sig .tc := ⟨.hbm, 289, rfl⟩
abbrev main_while0b_v233 : Ref sig .tc := ⟨.hbm, 290, rfl⟩
abbrev main_while0b_v234 : Ref sig .tc := ⟨.hbm, 291, rfl⟩
abbrev main_while0b_cst_57 : Ref sig .tc := ⟨.hbm, 292, rfl⟩
abbrev main_while0b_v235 : Ref sig .tc := ⟨.hbm, 293, rfl⟩
abbrev main_while0b_v236 : Ref sig .tc := ⟨.hbm, 294, rfl⟩
abbrev main_while0b_v237 : Ref sig .tc := ⟨.hbm, 295, rfl⟩
abbrev main_while0b_v238 : Ref sig .tc := ⟨.hbm, 296, rfl⟩
abbrev main_while0b_v239 : Ref sig .tc := ⟨.hbm, 297, rfl⟩
abbrev main_while0b_v240 : Ref sig .tc := ⟨.hbm, 298, rfl⟩
abbrev main_while0b_v241 : Ref sig .tc := ⟨.hbm, 299, rfl⟩
abbrev main_while0b_v242 : Ref sig .tc := ⟨.hbm, 300, rfl⟩
abbrev main_while0b_v243 : Ref sig .tc := ⟨.hbm, 301, rfl⟩
abbrev main_while0b_call4_v0 : Ref sig .tc := ⟨.hbm, 302, rfl⟩
abbrev main_while0b_call4_c : Ref sig .tc := ⟨.hbm, 303, rfl⟩
abbrev main_while0b_call4_c_0 : Ref sig .tc := ⟨.hbm, 304, rfl⟩
abbrev main_while0b_call4_c_1 : Ref sig .tc := ⟨.hbm, 305, rfl⟩
abbrev main_while0b_v244 : Ref sig .tc := ⟨.hbm, 306, rfl⟩
abbrev main_while0b_c_58 : Ref sig .tc := ⟨.hbm, 307, rfl⟩
abbrev main_while0b_v245 : Ref sig .tc := ⟨.hbm, 308, rfl⟩
abbrev main_v130 : Ref sig .tc := ⟨.hbm, 309, rfl⟩
abbrev main_v131 : Ref sig .tc := ⟨.hbm, 310, rfl⟩
abbrev main_v132 : Ref sig .tc := ⟨.hbm, 311, rfl⟩
abbrev main_cst_27 : Ref sig .tc := ⟨.hbm, 312, rfl⟩
abbrev main_v133 : Ref sig .tc := ⟨.hbm, 313, rfl⟩
abbrev main_v134 : Ref sig .tc := ⟨.hbm, 314, rfl⟩
abbrev main_cst_28 : Ref sig .tc := ⟨.hbm, 315, rfl⟩
abbrev main_v135 : Ref sig .tc := ⟨.hbm, 316, rfl⟩
abbrev main_v136 : Ref sig .tc := ⟨.hbm, 317, rfl⟩
abbrev main_v137 : Ref sig .tc := ⟨.hbm, 318, rfl⟩
abbrev main_v138 : Ref sig .tc := ⟨.hbm, 319, rfl⟩
abbrev main_v139 : Ref sig .tc := ⟨.hbm, 320, rfl⟩
abbrev main_cst_29 : Ref sig .tc := ⟨.hbm, 321, rfl⟩
abbrev main_v140 : Ref sig .tc := ⟨.hbm, 322, rfl⟩
abbrev main_v141 : Ref sig .tc := ⟨.hbm, 323, rfl⟩
abbrev main_cst_30 : Ref sig .tc := ⟨.hbm, 324, rfl⟩
abbrev main_v142 : Ref sig .tc := ⟨.hbm, 325, rfl⟩
abbrev main_v143 : Ref sig .tc := ⟨.hbm, 326, rfl⟩
abbrev main_v144 : Ref sig .tc := ⟨.hbm, 327, rfl⟩
abbrev main_v145 : Ref sig .tc := ⟨.hbm, 328, rfl⟩
abbrev main_cst_31 : Ref sig .tc := ⟨.hbm, 329, rfl⟩
abbrev main_v146 : Ref sig .tc := ⟨.hbm, 330, rfl⟩
abbrev main_v147 : Ref sig .tc := ⟨.hbm, 331, rfl⟩
abbrev main_v148 : Ref sig .tc := ⟨.hbm, 332, rfl⟩
abbrev main_v149 : Ref sig .tc := ⟨.hbm, 333, rfl⟩
abbrev main_v150 : Ref sig .tc := ⟨.hbm, 334, rfl⟩
abbrev main_v151 : Ref sig .tc := ⟨.hbm, 335, rfl⟩
abbrev main_v152 : Ref sig .tc := ⟨.hbm, 336, rfl⟩
abbrev main_v153 : Ref sig .tc := ⟨.hbm, 337, rfl⟩
abbrev main_v154 : Ref sig .tc := ⟨.hbm, 338, rfl⟩
abbrev main_v155 : Ref sig .tc := ⟨.hbm, 339, rfl⟩
abbrev main_v156 : Ref sig .tc := ⟨.hbm, 340, rfl⟩
abbrev main_v157 : Ref sig .tc := ⟨.hbm, 341, rfl⟩
abbrev main_v158 : Ref sig .tc := ⟨.hbm, 342, rfl⟩
abbrev main_v159 : Ref sig .tc := ⟨.hbm, 343, rfl⟩
abbrev main_v160 : Ref sig .tc := ⟨.hbm, 344, rfl⟩
abbrev main_v161 : Ref sig .tc := ⟨.hbm, 345, rfl⟩
abbrev main_v162 : Ref sig .tc := ⟨.hbm, 346, rfl⟩
abbrev main_cst_32 : Ref sig .tc := ⟨.hbm, 347, rfl⟩
abbrev main_v163 : Ref sig .tc := ⟨.hbm, 348, rfl⟩
abbrev main_v164 : Ref sig .tc := ⟨.hbm, 349, rfl⟩
abbrev main_cst_33 : Ref sig .tc := ⟨.hbm, 350, rfl⟩
abbrev main_v165 : Ref sig .tc := ⟨.hbm, 351, rfl⟩
abbrev main_v166 : Ref sig .tc := ⟨.hbm, 352, rfl⟩
abbrev main_v167 : Ref sig .tc := ⟨.hbm, 353, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S4x2048x768 : Shape := ⟨3, ![4, 2048, 768]⟩
abbrev S768x768 : Shape := ⟨2, ![768, 768]⟩
abbrev S768 : Shape := ⟨1, ![768]⟩
abbrev S64 : Shape := ⟨1, ![64]⟩
abbrev S1x768 : Shape := ⟨2, ![1, 768]⟩
abbrev S1x64 : Shape := ⟨2, ![1, 64]⟩
abbrev S12x64 : Shape := ⟨2, ![12, 64]⟩
abbrev S12x12 : Shape := ⟨2, ![12, 12]⟩
abbrev S_ : Shape := ⟨0, ![]⟩
abbrev S12x64x12 : Shape := ⟨3, ![12, 64, 12]⟩
abbrev S768x12 : Shape := ⟨2, ![768, 12]⟩
abbrev S1x256x768 : Shape := ⟨3, ![1, 256, 768]⟩
abbrev S256x768 : Shape := ⟨2, ![256, 768]⟩
abbrev S256 : Shape := ⟨1, ![256]⟩
abbrev S256x1 : Shape := ⟨2, ![256, 1]⟩
abbrev S256x12 : Shape := ⟨2, ![256, 12]⟩
abbrev S12x768 : Shape := ⟨2, ![12, 768]⟩

abbrev nBuf : Space → Nat
  | .hbm => 53
  | .vmem => 20
  | .smem => 0
  | _ => 0

abbrev bufTy : (tb : Table) → Fin (tcTables nBuf tb) → BufTy
  | .hbm, ⟨0, _⟩ => ⟨S4x2048x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768, .f32⟩
  | .hbm, ⟨5, _⟩ => ⟨S768, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x768, .f32⟩
  | .hbm, ⟨13, _⟩ => ⟨S1x768, .f32⟩
  | .hbm, ⟨14, _⟩ => ⟨S1x64, .f32⟩
  | .hbm, ⟨15, _⟩ => ⟨S12x64, .f32⟩
  | .hbm, ⟨16, _⟩ => ⟨S768, .f32⟩
  | .hbm, ⟨17, _⟩ => ⟨S1x768, .f32⟩
  | .hbm, ⟨18, _⟩ => ⟨S1x64, .f32⟩
  | .hbm, ⟨19, _⟩ => ⟨S12x64, .f32⟩
  | .hbm, ⟨20, _⟩ => ⟨S768, .f32⟩
  | .hbm, ⟨21, _⟩ => ⟨S1x768, .f32⟩
  | .hbm, ⟨22, _⟩ => ⟨S1x64, .f32⟩
  | .hbm, ⟨23, _⟩ => ⟨S12x64, .f32⟩
  | .hbm, ⟨24, _⟩ => ⟨S768, .f32⟩
  | .hbm, ⟨25, _⟩ => ⟨S1x768, .f32⟩
  | .hbm, ⟨26, _⟩ => ⟨S1x64, .f32⟩
  | .hbm, ⟨27, _⟩ => ⟨S12x64, .f32⟩
  | .hbm, ⟨28, _⟩ => ⟨S768, .f32⟩
  | .hbm, ⟨29, _⟩ => ⟨S1x768, .f32⟩
  | .hbm, ⟨30, _⟩ => ⟨S1x64, .f32⟩
  | .hbm, ⟨31, _⟩ => ⟨S12x64, .f32⟩
  | .hbm, ⟨32, _⟩ => ⟨S768, .f32⟩
  | .hbm, ⟨33, _⟩ => ⟨S1x768, .f32⟩
  | .hbm, ⟨34, _⟩ => ⟨S1x64, .f32⟩
  | .hbm, ⟨35, _⟩ => ⟨S12x64, .f32⟩
  | .hbm, ⟨36, _⟩ => ⟨S768, .f32⟩
  | .hbm, ⟨37, _⟩ => ⟨S1x768, .f32⟩
  | .hbm, ⟨38, _⟩ => ⟨S12x12, .i32⟩
  | .hbm, ⟨39, _⟩ => ⟨S12x12, .i32⟩
  | .hbm, ⟨40, _⟩ => ⟨S_, .i32⟩
  | .hbm, ⟨41, _⟩ => ⟨S12x12, .i32⟩
  | .hbm, ⟨42, _⟩ => ⟨S12x12, .i32⟩
  | .hbm, ⟨43, _⟩ => ⟨S12x12, .i1⟩
  | .hbm, ⟨44, _⟩ => ⟨S12x12, .f32⟩
  | .hbm, ⟨45, _⟩ => ⟨S12x64x12, .f32⟩
  | .hbm, ⟨46, _⟩ => ⟨S768x12, .f32⟩
  | .hbm, ⟨47, _⟩ => ⟨S_, .f32⟩
  | .hbm, ⟨48, _⟩ => ⟨S768x12, .f32⟩
  | .hbm, ⟨49, _⟩ => ⟨S768x12, .f32⟩
  | .hbm, ⟨50, _⟩ => ⟨S4x2048x768, .f32⟩
  | .hbm, ⟨51, _⟩ => ⟨S4x2048x768, .f32⟩
  | .hbm, ⟨52, _⟩ => ⟨S4x2048x768, .f32⟩
  | .local _ .vmem, ⟨0, _⟩ => ⟨S1x256x768, .f32⟩
  | .local _ .vmem, ⟨1, _⟩ => ⟨S1x256x768, .f32⟩
  | .local _ .vmem, ⟨2, _⟩ => ⟨S768x768, .f32⟩
  | .local _ .vmem, ⟨3, _⟩ => ⟨S768x768, .f32⟩
  | .local _ .vmem, ⟨4, _⟩ => ⟨S768x768, .f32⟩
  | .local _ .vmem, ⟨5, _⟩ => ⟨S1x768, .f32⟩
  | .local _ .vmem, ⟨6, _⟩ => ⟨S1x768, .f32⟩
  | .local _ .vmem, ⟨7, _⟩ => ⟨S768x12, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .vmem, ⟨18, _⟩ => ⟨S1x256x768, .f32⟩
  | .local _ .vmem, ⟨19, _⟩ => ⟨S1x256x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev main_v36_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S768x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 2 → Memref sig .tc .vmem S1x256x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x256x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x256x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== Reference2Ideal.lean ====
abbrev S4x2048x768 : Shape := ⟨3, ![4, 2048, 768]⟩
abbrev S768x768 : Shape := ⟨2, ![768, 768]⟩
abbrev S768 : Shape := ⟨1, ![768]⟩
abbrev S64 : Shape := ⟨1, ![64]⟩
abbrev S_ : Shape := ⟨0, ![]⟩
abbrev S4x2048 : Shape := ⟨2, ![4, 2048]⟩
abbrev S4x2048x1 : Shape := ⟨3, ![4, 2048, 1]⟩
abbrev S1x1x768 : Shape := ⟨3, ![1, 1, 768]⟩
abbrev S4x2048x12x64 : Shape := ⟨4, ![4, 2048, 12, 64]⟩
abbrev S4x12x2048x64 : Shape := ⟨4, ![4, 12, 2048, 64]⟩
abbrev S4x12x2048 : Shape := ⟨3, ![4, 12, 2048]⟩
abbrev S4x12x2048x1 : Shape := ⟨4, ![4, 12, 2048, 1]⟩
abbrev S1x1x1x64 : Shape := ⟨4, ![1, 1, 1, 64]⟩

abbrev nBuf : Space → Nat
  | .hbm => 143
  | .vmem => 0
  | .smem => 0
  | _ => 0

abbrev hbmTy0_0 (i : Nat) : BufTy := match i % 128 with
  | 0 => ⟨S4x2048x768, .f32⟩
  | 1 => ⟨S768x768, .f32⟩
  | 2 => ⟨S768x768, .f32⟩
  | 3 => ⟨S768x768, .f32⟩
  | 4 => ⟨S768, .f32⟩
  | 5 => ⟨S768, .f32⟩
  | 6 => ⟨S64, .f32⟩
  | 7 => ⟨S64, .f32⟩
  | 8 => ⟨S64, .f32⟩
  | 9 => ⟨S64, .f32⟩
  | 10 => ⟨S64, .f32⟩
  | 11 => ⟨S64, .f32⟩
  | 12 => ⟨S_, .f32⟩
  | 13 => ⟨S4x2048, .f32⟩
  | 14 => ⟨S4x2048x1, .f32⟩
  | 15 => ⟨S_, .f32⟩
  | 16 => ⟨S4x2048x1, .f32⟩
  | 17 => ⟨S4x2048x1, .f32⟩
  | 18 => ⟨S4x2048x768, .f32⟩
  | 19 => ⟨S4x2048x768, .f32⟩
  | 20 => ⟨S4x2048x768, .f32⟩
  | 21 => ⟨S_, .f32⟩
  | 22 => ⟨S4x2048, .f32⟩
  | 23 => ⟨S4x2048x1, .f32⟩
  | 24 => ⟨S_, .f32⟩
  | 25 => ⟨S4x2048x1, .f32⟩
  | 26 => ⟨S4x2048x1, .f32⟩
  | 27 => ⟨S4x2048x768, .f32⟩
  | 28 => ⟨S4x2048x768, .f32⟩
  | 29 => ⟨S_, .f32⟩
  | 30 => ⟨S4x2048x1, .f32⟩
  | 31 => ⟨S4x2048x1, .f32⟩
  | 32 => ⟨S4x2048x1, .f32⟩
  | 33 => ⟨S4x2048x768, .f32⟩
  | 34 => ⟨S4x2048x768, .f32⟩
  | 35 => ⟨S1x1x768, .f32⟩
  | 36 => ⟨S4x2048x768, .f32⟩
  | 37 => ⟨S4x2048x768, .f32⟩
  | 38 => ⟨S1x1x768, .f32⟩
  | 39 => ⟨S4x2048x768, .f32⟩
  | 40 => ⟨S4x2048x768, .f32⟩
  | 41 => ⟨S4x2048x768, .f32⟩
  | 42 => ⟨S4x2048x12x64, .f32⟩
  | 43 => ⟨S4x12x2048x64, .f32⟩
  | 44 => ⟨S_, .f32⟩
  | 45 => ⟨S4x12x2048, .f32⟩
  | 46 => ⟨S4x12x2048x1, .f32⟩
  | 47 => ⟨S_, .f32⟩
  | 48 => ⟨S4x12x2048x1, .f32⟩
  | 49 => ⟨S4x12x2048x1, .f32⟩
  | 50 => ⟨S4x12x2048x64, .f32⟩
  | 51 => ⟨S4x12x2048x64, .f32⟩
  | 52 => ⟨S4x12x2048x64, .f32⟩
  | 53 => ⟨S_, .f32⟩
  | 54 => ⟨S4x12x2048, .f32⟩
  | 55 => ⟨S4x12x2048x1, .f32⟩
  | 56 => ⟨S_, .f32⟩
  | 57 => ⟨S4x12x2048x1, .f32⟩
  | 58 => ⟨S4x12x2048x1, .f32⟩
  | 59 => ⟨S4x12x2048x64, .f32⟩
  | 60 => ⟨S4x12x2048x64, .f32⟩
  | 61 => ⟨S_, .f32⟩
  | 62 => ⟨S4x12x2048x1, .f32⟩
  | 63 => ⟨S4x12x2048x1, .f32⟩
  | 64 => ⟨S4x12x2048x1, .f32⟩
  | 65 => ⟨S4x12x2048x64, .f32⟩
  | 66 => ⟨S4x12x2048x64, .f32⟩
  | 67 => ⟨S1x1x1x64, .f32⟩
  | 68 => ⟨S4x12x2048x64, .f32⟩
  | 69 => ⟨S4x12x2048x64, .f32⟩
  | 70 => ⟨S1x1x1x64, .f32⟩
  | 71 => ⟨S4x12x2048x64, .f32⟩
  | 72 => ⟨S4x12x2048x64, .f32⟩
  | 73 => ⟨S4x2048x768, .f32⟩
  | 74 => ⟨S4x2048x12x64, .f32⟩
  | 75 => ⟨S4x12x2048x64, .f32⟩
  | 76 => ⟨S_, .f32⟩
  | 77 => ⟨S4x12x2048, .f32⟩
  | 78 => ⟨S4x12x2048x1, .f32⟩
  | 79 => ⟨S_, .f32⟩
  | 80 => ⟨S4x12x2048x1, .f32⟩
  | 81 => ⟨S4x12x2048x1, .f32⟩
  | 82 => ⟨S4x12x2048x64, .f32⟩
  | 83 => ⟨S4x12x2048x64, .f32⟩
  | 84 => ⟨S4x12x2048x64, .f32⟩
  | 85 => ⟨S_, .f32⟩
  | 86 => ⟨S4x12x2048, .f32⟩
  | 87 => ⟨S4x12x2048x1, .f32⟩
  | 88 => ⟨S_, .f32⟩
  | 89 => ⟨S4x12x2048x1, .f32⟩
  | 90 => ⟨S4x12x2048x1, .f32⟩
  | 91 => ⟨S4x12x2048x64, .f32⟩
  | 92 => ⟨S4x12x2048x64, .f32⟩
  | 93 => ⟨S_, .f32⟩
  | 94 => ⟨S4x12x2048x1, .f32⟩
  | 95 => ⟨S4x12x2048x1, .f32⟩
  | 96 => ⟨S4x12x2048x1, .f32⟩
  | 97 => ⟨S4x12x2048x64, .f32⟩
  | 98 => ⟨S4x12x2048x64, .f32⟩
  | 99 => ⟨S1x1x1x64, .f32⟩
  | 100 => ⟨S4x12x2048x64, .f32⟩
  | 101 => ⟨S4x12x2048x64, .f32⟩
  | 102 => ⟨S1x1x1x64, .f32⟩
  | 103 => ⟨S4x12x2048x64, .f32⟩
  | 104 => ⟨S4x12x2048x64, .f32⟩
  | 105 => ⟨S4x2048x768, .f32⟩
  | 106 => ⟨S4x2048x12x64, .f32⟩
  | 107 => ⟨S4x12x2048x64, .f32⟩
  | 108 => ⟨S_, .f32⟩
  | 109 => ⟨S4x12x2048, .f32⟩
  | 110 => ⟨S4x12x2048x1, .f32⟩
  | 111 => ⟨S_, .f32⟩
  | 112 => ⟨S4x12x2048x1, .f32⟩
  | 113 => ⟨S4x12x2048x1, .f32⟩
  | 114 => ⟨S4x12x2048x64, .f32⟩
  | 115 => ⟨S4x12x2048x64, .f32⟩
  | 116 => ⟨S4x12x2048x64, .f32⟩
  | 117 => ⟨S_, .f32⟩
  | 118 => ⟨S4x12x2048, .f32⟩
  | 119 => ⟨S4x12x2048x1, .f32⟩
  | 120 => ⟨S_, .f32⟩
  | 121 => ⟨S4x12x2048x1, .f32⟩
  | 122 => ⟨S4x12x2048x1, .f32⟩
  | 123 => ⟨S4x12x2048x64, .f32⟩
  | 124 => ⟨S4x12x2048x64, .f32⟩
  | 125 => ⟨S_, .f32⟩
  | 126 => ⟨S4x12x2048x1, .f32⟩
  | 127 => ⟨S4x12x2048x1, .f32⟩
  | _ => ⟨S4x2048x768, .f32⟩

abbrev hbmTy0_1 (i : Nat) : BufTy := match i % 128 with
  | 0 => ⟨S4x12x2048x1, .f32⟩
  | 1 => ⟨S4x12x2048x64, .f32⟩
  | 2 => ⟨S4x12x2048x64, .f32⟩
  | 3 => ⟨S1x1x1x64, .f32⟩
  | 4 => ⟨S4x12x2048x64, .f32⟩
  | 5 => ⟨S4x12x2048x64, .f32⟩
  | 6 => ⟨S1x1x1x64, .f32⟩
  | 7 => ⟨S4x12x2048x64, .f32⟩
  | 8 => ⟨S4x12x2048x64, .f32⟩
  | 9 => ⟨S4x2048x12x64, .f32⟩
  | 10 => ⟨S4x2048x768, .f32⟩
  | 11 => ⟨S4x2048x12x64, .f32⟩
  | 12 => ⟨S4x2048x768, .f32⟩
  | 13 => ⟨S4x2048x12x64, .f32⟩
  | 14 => ⟨S4x2048x768, .f32⟩
  | _ => ⟨S4x2048x768, .f32⟩

abbrev hbmTy (i : Nat) : BufTy := match i / 128 with
  | 0 => hbmTy0_0 i
  | 1 => hbmTy0_1 i
  | _ => ⟨S4x2048x768, .f32⟩

abbrev bufTy : (tb : Table) → Fin (tcTables nBuf tb) → BufTy
  | .hbm, ⟨i, _⟩ => hbmTy i
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_cst_15 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_16 : Ref sig .tc := ⟨.hbm, 117, rfl⟩
abbrev main_v88 : Ref sig .tc := ⟨.hbm, 118, rfl⟩
abbrev main_v89 : Ref sig .tc := ⟨.hbm, 119, rfl⟩
abbrev main_cst_17 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_18 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩

abbrev nD : Nat := 1
abbrev τ : Topo := Topo.v7x

variable {F : FTy → Type} [FloatOps F]
-- ==== Kernel3.lean ====
abbrev S4x2048x768 : Shape := ⟨3, ![4, 2048, 768]⟩
abbrev S4x2048x12x64 : Shape := ⟨4, ![4, 2048, 12, 64]⟩
abbrev S768x768 : Shape := ⟨2, ![768, 768]⟩
abbrev S768 : Shape := ⟨1, ![768]⟩
abbrev S1x768 : Shape := ⟨2, ![1, 768]⟩
abbrev S1x256x768 : Shape := ⟨3, ![1, 256, 768]⟩
abbrev S256x768 : Shape := ⟨2, ![256, 768]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x768, .f32⟩
  | .hbm, ⟨1, _⟩ => ⟨S4x2048x12x64, .f32⟩
  | .hbm, ⟨2, _⟩ => ⟨S768x768, .f32⟩
  | .hbm, ⟨3, _⟩ => ⟨S768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S1x768, .f32⟩
  | .hbm, ⟨8, _⟩ => ⟨S1x768, .f32⟩
  | .hbm, ⟨9, _⟩ => ⟨S1x768, .f32⟩
  | .hbm, ⟨10, _⟩ => ⟨S4x2048x768, .f32⟩
  | .hbm, ⟨11, _⟩ => ⟨S4x2048x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S768x768, .f32⟩
  | .local _ .vmem, ⟨5, _⟩ => ⟨S768x768, .f32⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x256x768, .f32⟩
  | .local _ .vmem, ⟨10, _⟩ => ⟨S1x256x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference3Ideal.lean ====
abbrev S4x2048x768 : Shape := ⟨3, ![4, 2048, 768]⟩
abbrev S4x2048x12x64 : Shape := ⟨4, ![4, 2048, 12, 64]⟩
abbrev S768x768 : Shape := ⟨2, ![768, 768]⟩
abbrev S768 : Shape := ⟨1, ![768]⟩
abbrev S_ : Shape := ⟨0, ![]⟩
abbrev S4x2048 : Shape := ⟨2, ![4, 2048]⟩
abbrev S4x2048x1 : Shape := ⟨3, ![4, 2048, 1]⟩
abbrev S1x1x768 : Shape := ⟨3, ![1, 1, 768]⟩

abbrev nBuf : Space → Nat
  | .hbm => 51
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S4x2048x12x64, .f32⟩
  | .hbm, ⟨2, _⟩ => ⟨S768x768, .f32⟩
  | .hbm, ⟨3, _⟩ => ⟨S768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S4x2048x768, .f32⟩
  | .hbm, ⟨8, _⟩ => ⟨S4x2048x768, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x768, .f32⟩
  | .hbm, ⟨16, _⟩ => ⟨S4x2048x768, .f32⟩
  | .hbm, ⟨17, _⟩ => ⟨S4x2048x768, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x768, .f32⟩
  | .hbm, ⟨25, _⟩ => ⟨S4x2048x768, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S4x2048x768, .f32⟩
  | .hbm, ⟨31, _⟩ => ⟨S4x2048x768, .f32⟩
  | .hbm, ⟨32, _⟩ => ⟨S1x1x768, .f32⟩
  | .hbm, ⟨33, _⟩ => ⟨S4x2048x768, .f32⟩
  | .hbm, ⟨34, _⟩ => ⟨S4x2048x768, .f32⟩
  | .hbm, ⟨35, _⟩ => ⟨S1x1x768, .f32⟩
  | .hbm, ⟨36, _⟩ => ⟨S4x2048x768, .f32⟩
  | .hbm, ⟨37, _⟩ => ⟨S4x2048x768, .f32⟩
  | .hbm, ⟨38, _⟩ => ⟨S4x2048x768, .f32⟩
  | .hbm, ⟨39, _⟩ => ⟨S1x1x768, .f32⟩
  | .hbm, ⟨40, _⟩ => ⟨S4x2048x768, .f32⟩
  | .hbm, ⟨41, _⟩ => ⟨S4x2048x768, .f32⟩
  | .hbm, ⟨42, _⟩ => ⟨S4x2048x768, .f32⟩
  | .hbm, ⟨43, _⟩ => ⟨S4x2048x768, .f32⟩
  | .hbm, ⟨44, _⟩ => ⟨S_, .f32⟩
  | .hbm, ⟨45, _⟩ => ⟨S4x2048x768, .f32⟩
  | .hbm, ⟨46, _⟩ => ⟨S4x2048x768, .f32⟩
  | .hbm, ⟨47, _⟩ => ⟨S_, .f32⟩
  | .hbm, ⟨48, _⟩ => ⟨S4x2048x768, .f32⟩
  | .hbm, ⟨49, _⟩ => ⟨S4x2048x768, .f32⟩
  | .hbm, ⟨50, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Proof.Ideal.Trip.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Routed
public import Idealize.ShloMosaic.Lib.Pipeline.ValueKit
public import Idealize.ShloMosaic.Lib.Ring
public import Idealize.ShloMosaic.Lib.Tactic
public import Idealize.ShloMosaic.Lib.Exec

@[expose] public section

set_option maxRecDepth 16384
set_option maxHeartbeats 4000000

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat UC)

variable {F : FTy → Type} [FloatOps F]

local notation "𝕄" => MT nD τ sig Unit (Elt F) ℕ (UC sig nD τ) ℕ

/-- Row `k` of a chunk of 256 rows, as the trip loads it. -/
def row (X : Vec F S256x48x64 .f32) (k : Fin k1_t1_loop.trips) : Vec F S1x48x64 .f32 :=
  fun y => X ((Rect.unit (s := S256x48x64) (k1_off5 k) S1x48x64.size (k1_off5_inb k)).toLoadRect.idx y)

/-- The momentum after a step. -/
def nextMom (M Mom : Vec F S48x64x64 .f32) (k v : Vec F S1x48x64 .f32) : Vec F S48x64x64 .f32 :=
  k1_pay13 (k1_pay2 Mom) (k1_pay3 k) (k1_pay5 k) (k1_pay8 M k v)

/-- The memory after a step. -/
def nextM (w1 : Vec F S192x128 .f32) (b1 : Vec F S1x128 .f32) (w2 : Vec F S128x64 .f32) (b2 : Vec F S1x64 .f32)
    (w3 : Vec F S64x128 .f32) (b3 : Vec F S1x128 .f32) (lr fg : Vec F S48x64 .f32)
    (M Mom : Vec F S48x64x64 .f32) (k v : Vec F S1x48x64 .f32) : Vec F S48x64x64 .f32 :=
  k1_pay14 (k1_pay19 w3) (k1_pay20 b3) (k1_pay21 lr) (k1_pay22 fg) (k1_pay1 M) (k1_pay2 Mom) (k1_pay3 k) (k1_pay5 k) (k1_pay7 M k) (k1_pay8 M k v)
    (k1_pay9 w1 (k1_pay17 b1) w2 (k1_pay18 b2) M k v) (k1_pay10 w1 (k1_pay17 b1) w2 (k1_pay18 b2) M k v)

/-- What a step reads out of the memory. -/
def readOut (M : Vec F S48x64x64 .f32) (q : Vec F S1x48x64 .f32) : FVec F S1x48x64 .f32 := k1_pay23 (k1_pay6 M q)

/-- A chunk of 256 rows with row `k` replaced. -/
def setRow (O : Vec F S256x48x64 .f32) (k : Fin k1_t1_loop.trips) (r : FVec F S1x48x64 .f32) : Vec F S256x48x64 .f32 :=
  fun y => if (y 0 : ℕ) = k.val then r (ix3 0 (y 1) (y 2)) else O y

/-- Contents written whole read back as what was written. -/
theorem read_writes_whole3 {m : Memref sig .tc .vmem S48x64x64 .f32} (f : m.view.ty.Contents (Elt F)) (w : Vec F S48x64x64 .f32)
    (h : ∀ a, (![0, 0, 0] : Fin 3 → ℕ) a + S48x64x64.size a ≤ S48x64x64.size a) :
    View.read (Elt F) m.view (m.view.writes (Elt F) f [⟨Rect.unit (s := S48x64x64) ![0, 0, 0] S48x64x64.size h, w⟩]) = w := by
  funext y
  refine View.read_writes_cons_hit_of_coords m.view f (Rect.unit (s := S48x64x64) ![0, 0, 0] S48x64x64.size h) w [] y y fun a => ?_
  fin_cases a <;> simp [Rect.unit]

/-- A load of the whole state reads the state. -/
theorem readAt_whole3 {m : Memref sig .tc .vmem S48x64x64 .f32} (hm : m.IsWhole) (X : Vec F S48x64x64 .f32)
    (h : ∀ a, (![0, 0, 0] : Fin 3 → ℕ) a + (![48, 64, 64] : Fin 3 → ℕ) a ≤ S48x64x64.size a) :
    View.readAt (Elt F) m.view (Rect.unit (s := S48x64x64) ![0, 0, 0] ![48, 64, 64] h).toLoadRect (hm.unread X) = X := by
  funext y
  refine (congrFun (hm.read_unread X) _).trans (congrArg X ?_)
  funext a; apply Fin.ext
  fin_cases a <;> simp [Rect.unit, Rect.toLoadRect, LoadRect.idx]

/-- A load at the trip's row reads that row of the chunk. -/
theorem readAt_row {m : Memref sig .tc .vmem S256x48x64 .f32} (hm : m.IsWhole) (X : Vec F S256x48x64 .f32) (k : Fin k1_t1_loop.trips)
    (h : ∀ a, (k1_off5 k : Fin 3 → ℕ) a + (![1, 48, 64] : Fin 3 → ℕ) a ≤ S256x48x64.size a) :
    View.readAt (Elt F) m.view (Rect.unit (s := S256x48x64) (k1_off5 k) ![1, 48, 64] h).toLoadRect (hm.unread X) = row X k := by
  funext y
  exact congrFun (hm.read_unread X) _

/-- Row `k` written over contents that read `O`. -/
theorem read_writes_row {m : Memref sig .tc .vmem S256x48x64 .f32} (hm : m.IsWhole) (O : Vec F S256x48x64 .f32) (k : Fin k1_t1_loop.trips)
    (r : FVec F S1x48x64 .f32) (h : ∀ a, (k1_off5 k : Fin 3 → ℕ) a + (![1, 48, 64] : Fin 3 → ℕ) a ≤ S256x48x64.size a) :
    View.read (Elt F) m.view (m.view.writes (Elt F) (hm.unread O) [⟨Rect.unit (s := S256x48x64) (k1_off5 k) ![1, 48, 64] h, r⟩]) = setRow O k r := by
  have h0 : (k1_off5 k) 0 = k.val := by rw [k1_off5_eq]; rfl
  have h1 : (k1_off5 k) 1 = 0 := by rw [k1_off5_eq]; rfl
  have h2 : (k1_off5 k) 2 = 0 := by rw [k1_off5_eq]; rfl
  funext y
  unfold setRow
  split
  · rename_i hy
    refine View.read_writes_cons_hit_of_coords (Val := Elt F) m.view _ (Rect.unit (s := S256x48x64) (k1_off5 k) S1x48x64.size h) (show S1x48x64.Idx → Elt F .f32 from r) [] (ix3 0 (y 1) (y 2)) y fun a => ?_
    fin_cases a <;> simp [Rect.unit, h0, h1, h2, hy]
  · rename_i hy
    rw [View.read_writes_cons_miss_of_axis m.view _ _ [] y 0 k.val 1 h0 rfl rfl (by omega)]
    exact congrFun (hm.read_unread O) y

/-- One trip of the scan's loop: it reads the three rows, and leaves the state and the momentum that the trip's payloads compute, and the output's row. -/
theorem trip (𝒱 : Variants) (c : Dev nD) (bd : Option 𝒱.V) (i : grid1.Coords) (arg1 : Memref sig .tc .hbm S4x2048x12x64 .f32) (harg1 : arg1.IsWhole) (arg2 : Memref sig .tc .hbm S4x2048x12x64 .f32) (harg2 : arg2.IsWhole) (arg3 : Memref sig .tc .hbm S4x2048x12x64 .f32) (harg3 : arg3.IsWhole) (arg4 : Memref sig .tc .vmem S48x64x64 .f32) (harg4 : arg4.IsWhole) (arg5 : Memref sig .tc .vmem S48x64x64 .f32) (harg5 : arg5.IsWhole) (arg6 : Memref sig .tc .vmem S192x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x128 .f32) (harg11 : arg11.IsWhole) (arg12 : Memref sig .tc .vmem S48x64 .f32) (harg12 : arg12.IsWhole) (arg13 : Memref sig .tc .vmem S48x64 .f32) (harg13 : arg13.IsWhole) (arg14 : Memref sig .tc .hbm S4x2048x12x64 .f32) (harg14 : arg14.IsWhole) (arg15 : Memref sig .tc .vmem S48x64x64 .f32) (harg15 : arg15.IsWhole) (arg16 : Memref sig .tc .vmem S48x64x64 .f32) (harg16 : arg16.IsWhole) (arg17 : Memref sig .tc .vmem S256x48x64 .f32) (harg17 : arg17.IsWhole) (arg18 : Memref sig .tc .vmem S256x48x64 .f32) (harg18 : arg18.IsWhole) (arg19 : Memref sig .tc .vmem S256x48x64 .f32) (harg19 : arg19.IsWhole) (arg20 : Memref sig .tc .vmem S256x48x64 .f32) (harg20 : arg20.IsWhole) (arg21 : DmaSems sig S12) (arg22 : DmaSems sig S4) (arg0 : BitVec 32) (v135 : Vec F S192x128 .f32) (V137 : Vec F S1x128 .f32) (v138 : Vec F S128x64 .f32) (V140 : Vec F S1x64 .f32) (v141 : Vec F S64x128 .f32) (v143 : Vec F S1x128 .f32) (v145 : Vec F S48x64 .f32) (v147 : Vec F S48x64 .f32)
    (k : Fin k1_t1_loop.trips) (E : Set ℕ)
    (K V Q O : Vec F S256x48x64 .f32) (M Mom : Vec F S48x64x64 .f32) :
    iprop(owns (c : Thread nD τ) arg17 fullShare K ∗ owns (c : Thread nD τ) arg18 fullShare V ∗ owns (c : Thread nD τ) arg19 fullShare Q
      ∗ owns (c : Thread nD τ) arg15 fullShare M ∗ owns (c : Thread nD τ) arg16 fullShare Mom ∗ owns (c : Thread nD τ) arg20 fullShare O : sProp 𝕄)
    ⊢ wp frame (wpE (defs₀ (F := F)) 𝒱 (c : Thread nD τ) bd) E (k1_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg0 v135 (k1_pay17 V137) v138 (k1_pay18 V140) v141 v143 v145 v147 k ())
      (fun _ => iprop(owns (c : Thread nD τ) arg17 fullShare K ∗ owns (c : Thread nD τ) arg18 fullShare V ∗ owns (c : Thread nD τ) arg19 fullShare Q
        ∗ owns (c : Thread nD τ) arg15 fullShare (nextM v135 V137 v138 V140 v141 v143 v145 v147 M Mom (row K k) (row V k))
        ∗ owns (c : Thread nD τ) arg16 fullShare (nextMom M Mom (row K k) (row V k))
        ∗ owns (c : Thread nD τ) arg20 fullShare (setRow O k (readOut M (row Q k))))) := by
  have hk : k.val < 256 := Nat.lt_of_lt_of_le k.isLt k1_t1_abs.2.1
  unfold k1_t1_body owns
  iintro ⟨⟨%f17, %h17, H17⟩, ⟨%f18, %h18, H18⟩, ⟨%f19, %h19, H19⟩, ⟨%f15, %h15, H15⟩, ⟨%f16, %h16, H16⟩, ⟨%f20, %h20, H20⟩⟩
  obtain rfl := harg17.eq_unread h17; obtain rfl := harg18.eq_unread h18; obtain rfl := harg19.eq_unread h19
  obtain rfl := harg15.eq_unread h15; obtain rfl := harg16.eq_unread h16; obtain rfl := harg20.eq_unread h20
  sl_exec
  sl_step
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H15]
  · iexists _; isplitr
    rotate_left
    · iexact H15
    ipureintro; refine (read_writes_whole3 _ _ _).trans ?_; delta trip.sl.r_10 trip.sl.r_9 trip.sl.r_8 trip.sl.r_7 trip.sl.r_6 trip.sl.r_5 trip.sl.r_3 trip.sl.r_2 trip.sl.r_1 trip.sl.r; simp only [readAt_whole3, readAt_row]; rfl
  isplitl [H16]
  · iexists _; isplitr
    rotate_left
    · iexact H16
    ipureintro; refine (read_writes_whole3 _ _ _).trans ?_; delta trip.sl.r_9 trip.sl.r_8 trip.sl.r_7 trip.sl.r_6 trip.sl.r_5 trip.sl.r_3 trip.sl.r_2 trip.sl.r_1 trip.sl.r; simp only [readAt_whole3, readAt_row]; rfl
  iexists _; isplitr
  rotate_left
  · iexact H20
  ipureintro; unfold trip.sl.r_4; simp only [readAt_whole3, readAt_row]; exact read_writes_row _ _ _ _ _

end Cert.KernelIdeal.Scan

end
-- ==== Proof.Ideal.Loop.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Routed
public import Idealize.ShloMosaic.Lib.Pipeline.ValueKit
public import Idealize.ShloMosaic.Lib.Ring
public import Idealize.ShloMosaic.Lib.Tactic
public import Idealize.ShloMosaic.Lib.Exec
public import Idealize.ShloMosaic.Lib.ValueLayout
public import proofs.«01_k».proof.Proof.Ideal.Trip

@[expose] public section

set_option maxRecDepth 16384
set_option maxHeartbeats 4000000

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat UC)

variable {F : FTy → Type} [FloatOps F]

local notation "𝕄" => MT nD τ sig Unit (Elt F) ℕ (UC sig nD τ) ℕ

/-- Time step `n` of an input laid out batch, time, head, feature: its 48 rows, one for each batch and head. -/
def rowG (A : Vec F S4x2048x12x64 .f32) (n : ℕ) : Vec F S1x48x64 .f32 := fun y =>
  A (ix4 (⟨(y 1).val / 12, by have : (y 1).val < 48 := (y 1).isLt; omega⟩ : Fin 4) (⟨n % 2048, Nat.mod_lt _ (by decide)⟩ : Fin 2048)
    (⟨(y 1).val % 12, Nat.mod_lt _ (by decide)⟩ : Fin 12) (⟨(y 2).val, (y 2).isLt⟩ : Fin 64))

/-- The 256 time steps of point `t`. -/
def chunk (A : Vec F S4x2048x12x64 .f32) (t : ℕ) : Vec F S256x48x64 .f32 := fun y => rowG A (256 * t + (y 0).val) (ix3 (0 : Fin 1) (y 1) (y 2))

/-- The memory and the momentum after `n` steps from `s`. -/
def chain (w1 : Vec F S192x128 .f32) (b1 : Vec F S1x128 .f32) (w2 : Vec F S128x64 .f32) (b2 : Vec F S1x64 .f32)
    (w3 : Vec F S64x128 .f32) (b3 : Vec F S1x128 .f32) (lr fg : Vec F S48x64 .f32) (k v : ℕ → Vec F S1x48x64 .f32)
    (s : Vec F S48x64x64 .f32 × Vec F S48x64x64 .f32) : ℕ → Vec F S48x64x64 .f32 × Vec F S48x64x64 .f32
  | 0 => s
  | n + 1 =>
    let p := chain w1 b1 w2 b2 w3 b3 lr fg k v s n
    (nextM w1 b1 w2 b2 w3 b3 lr fg p.1 p.2 (k n) (v n), nextMom p.1 p.2 (k n) (v n))

/-- `a + n` steps are `a` steps and then `n`. -/
theorem chain_add (w1 : Vec F S192x128 .f32) (b1 : Vec F S1x128 .f32) (w2 : Vec F S128x64 .f32) (b2 : Vec F S1x64 .f32)
    (w3 : Vec F S64x128 .f32) (b3 : Vec F S1x128 .f32) (lr fg : Vec F S48x64 .f32) (k v : ℕ → Vec F S1x48x64 .f32)
    (s : Vec F S48x64x64 .f32 × Vec F S48x64x64 .f32) (a n : ℕ) :
    chain w1 b1 w2 b2 w3 b3 lr fg k v s (a + n)
      = chain w1 b1 w2 b2 w3 b3 lr fg (fun j => k (a + j)) (fun j => v (a + j)) (chain w1 b1 w2 b2 w3 b3 lr fg k v s a) n := by
  induction n with
  | zero => rfl
  | succ n ih =>
    show (_, _) = (_, _)
    rw [← ih]; rfl

/-- The rows of a chunk read out by the first `n` steps; the others are as they were. -/
def outRows (st : ℕ → Vec F S48x64x64 .f32 × Vec F S48x64x64 .f32) (q : ℕ → Vec F S1x48x64 .f32) (O : Vec F S256x48x64 .f32) (n : ℕ) :
    Vec F S256x48x64 .f32 := fun y =>
  if (y 0).val < n then readOut (st (y 0).val).1 (q (y 0).val) (ix3 (0 : Fin 1) (y 1) (y 2)) else O y

/-- Row `k` of chunk `t` is row `256 t + k` of the whole operand. -/
theorem row_chunk (A : Vec F S4x2048x12x64 .f32) (t : ℕ) (k : Fin k1_t1_loop.trips) : row (chunk A t) k = rowG A (256 * t + k.val) := by
  funext y
  have h0 : (k1_off5 k) 0 = k.val := by rw [k1_off5_eq]; rfl
  have h1 : (k1_off5 k) 1 = 0 := by rw [k1_off5_eq]; rfl
  have h2 : (k1_off5 k) 2 = 0 := by rw [k1_off5_eq]; rfl
  have e0 : (((Rect.unit (s := S256x48x64) (k1_off5 k) S1x48x64.size (k1_off5_inb k)).toLoadRect.idx y) 0).val = k.val := by
    show (k1_off5 k) 0 + 1 * (y 0).val = _
    have : (y 0).val < 1 := (y 0).isLt
    omega
  have e1 : (((Rect.unit (s := S256x48x64) (k1_off5 k) S1x48x64.size (k1_off5_inb k)).toLoadRect.idx y) 1).val = (y 1).val := by
    show (k1_off5 k) 1 + 1 * (y 1).val = _
    omega
  have e2 : (((Rect.unit (s := S256x48x64) (k1_off5 k) S1x48x64.size (k1_off5_inb k)).toLoadRect.idx y) 2).val = (y 2).val := by
    show (k1_off5 k) 2 + 1 * (y 2).val = _
    omega
  unfold row chunk rowG
  simp only [e0]
  refine congrArg A ?_
  funext a; apply Fin.ext
  fin_cases a
  · show _ / 12 = _ / 12; exact congrArg (· / 12) e1
  · rfl
  · show _ % 12 = _ % 12; exact congrArg (· % 12) e1
  · exact e2

/-- Storing row `k` takes the output rows of the first `k` trips to those of the first `k + 1`. -/
theorem setRow_outRows (st : ℕ → Vec F S48x64x64 .f32 × Vec F S48x64x64 .f32) (q : ℕ → Vec F S1x48x64 .f32) (O : Vec F S256x48x64 .f32)
    (k : Fin k1_t1_loop.trips) : setRow (outRows st q O k.val) k (readOut (st k.val).1 (q k.val)) = outRows st q O (k.val + 1) := by
  funext y
  unfold setRow outRows
  by_cases h : (y 0).val = k.val
  · rw [if_pos h, if_pos (by omega), h]
  · rw [if_neg h]
    by_cases h' : (y 0).val < k.val
    · rw [if_pos h', if_pos (by omega)]
    · rw [if_neg h', if_neg (by omega)]

/-- What the loop of a point holds before trip `n`. -/
def Inv (c : Dev nD) (arg15 arg16 : Memref sig .tc .vmem S48x64x64 .f32) (arg17 arg18 arg19 arg20 : Memref sig .tc .vmem S256x48x64 .f32)
    (t : ℕ) (w1 : Vec F S192x128 .f32) (b1 : Vec F S1x128 .f32) (w2 : Vec F S128x64 .f32) (b2 : Vec F S1x64 .f32)
    (w3 : Vec F S64x128 .f32) (b3 : Vec F S1x128 .f32) (lr fg : Vec F S48x64 .f32) (KK VV QQ : Vec F S4x2048x12x64 .f32)
    (s : Vec F S48x64x64 .f32 × Vec F S48x64x64 .f32) (O : Vec F S256x48x64 .f32) (n : ℕ) (_ : PUnit) : sProp 𝕄 :=
  let st := chain w1 b1 w2 b2 w3 b3 lr fg (fun j => rowG KK (256 * t + j)) (fun j => rowG VV (256 * t + j)) s
  iprop(owns (c : Thread nD τ) arg17 fullShare (chunk KK t) ∗ owns (c : Thread nD τ) arg18 fullShare (chunk VV t)
    ∗ owns (c : Thread nD τ) arg19 fullShare (chunk QQ t)
    ∗ owns (c : Thread nD τ) arg15 fullShare (st n).1 ∗ owns (c : Thread nD τ) arg16 fullShare (st n).2
    ∗ owns (c : Thread nD τ) arg20 fullShare (outRows st (fun j => rowG QQ (256 * t + j)) O n))

/-- A trip carries the loop's invariant on. -/
theorem trip_inv (𝒱 : Variants) (c : Dev nD) (bd : Option 𝒱.V) (i : grid1.Coords) (arg1 : Memref sig .tc .hbm S4x2048x12x64 .f32) (harg1 : arg1.IsWhole) (arg2 : Memref sig .tc .hbm S4x2048x12x64 .f32) (harg2 : arg2.IsWhole) (arg3 : Memref sig .tc .hbm S4x2048x12x64 .f32) (harg3 : arg3.IsWhole) (arg4 : Memref sig .tc .vmem S48x64x64 .f32) (harg4 : arg4.IsWhole) (arg5 : Memref sig .tc .vmem S48x64x64 .f32) (harg5 : arg5.IsWhole) (arg6 : Memref sig .tc .vmem S192x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x128 .f32) (harg11 : arg11.IsWhole) (arg12 : Memref sig .tc .vmem S48x64 .f32) (harg12 : arg12.IsWhole) (arg13 : Memref sig .tc .vmem S48x64 .f32) (harg13 : arg13.IsWhole) (arg14 : Memref sig .tc .hbm S4x2048x12x64 .f32) (harg14 : arg14.IsWhole) (arg15 : Memref sig .tc .vmem S48x64x64 .f32) (harg15 : arg15.IsWhole) (arg16 : Memref sig .tc .vmem S48x64x64 .f32) (harg16 : arg16.IsWhole) (arg17 : Memref sig .tc .vmem S256x48x64 .f32) (harg17 : arg17.IsWhole) (arg18 : Memref sig .tc .vmem S256x48x64 .f32) (harg18 : arg18.IsWhole) (arg19 : Memref sig .tc .vmem S256x48x64 .f32) (harg19 : arg19.IsWhole) (arg20 : Memref sig .tc .vmem S256x48x64 .f32) (harg20 : arg20.IsWhole) (arg21 : DmaSems sig S12) (arg22 : DmaSems sig S4) (arg0 : BitVec 32)
    (w1 : Vec F S192x128 .f32) (b1 : Vec F S1x128 .f32) (w2 : Vec F S128x64 .f32) (b2 : Vec F S1x64 .f32)
    (w3 : Vec F S64x128 .f32) (b3 : Vec F S1x128 .f32) (lr fg : Vec F S48x64 .f32)
    (k : Fin k1_t1_loop.trips) (E : Set ℕ) (t : ℕ) (KK VV QQ : Vec F S4x2048x12x64 .f32)
    (s : Vec F S48x64x64 .f32 × Vec F S48x64x64 .f32) (O : Vec F S256x48x64 .f32) :
    Inv c arg15 arg16 arg17 arg18 arg19 arg20 t w1 b1 w2 b2 w3 b3 lr fg KK VV QQ s O k.val ⟨⟩
    ⊢ wp frame (wpE (defs₀ (F := F)) 𝒱 (c : Thread nD τ) bd) E (k1_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg0 w1 (k1_pay17 b1) w2 (k1_pay18 b2) w3 b3 lr fg k ())
      (fun _ => Inv c arg15 arg16 arg17 arg18 arg19 arg20 t w1 b1 w2 b2 w3 b3 lr fg KK VV QQ s O (k.val + 1) ⟨⟩) := by
  have T := trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg0 w1 b1 w2 b2 w3 b3 lr fg k E (chunk KK t) (chunk VV t) (chunk QQ t)
    (outRows (chain w1 b1 w2 b2 w3 b3 lr fg (fun j => rowG KK (256 * t + j)) (fun j => rowG VV (256 * t + j)) s) (fun j => rowG QQ (256 * t + j)) O k.val)
    (chain w1 b1 w2 b2 w3 b3 lr fg (fun j => rowG KK (256 * t + j)) (fun j => rowG VV (256 * t + j)) s k.val).1
    (chain w1 b1 w2 b2 w3 b3 lr fg (fun j => rowG KK (256 * t + j)) (fun j => rowG VV (256 * t + j)) s k.val).2
  rw [row_chunk, row_chunk, row_chunk, setRow_outRows (chain w1 b1 w2 b2 w3 b3 lr fg (fun j => rowG KK (256 * t + j)) (fun j => rowG VV (256 * t + j)) s) (fun j => rowG QQ (256 * t + j)) O k] at T
  exact T

/-- The loop makes 256 trips, one a row of the chunk. -/
theorem trips_eq : k1_t1_loop.trips = 256 := by decide

/-- A whole memref read whole. -/
theorem readAt_whole {sp : Space} {s : Shape} {m : Memref sig .tc sp s .f32} (hm : m.IsWhole) (X : Vec F s .f32) (off : Fin s.rank → ℕ)
    (ho : ∀ a, off a = 0) (h : ∀ a, off a + s.size a ≤ s.size a) :
    View.readAt (Elt F) m.view (Rect.unit (s := s) off s.size h).toLoadRect (hm.unread X) = X := by
  funext y
  refine (congrFun (hm.read_unread X) _).trans (congrArg X ?_)
  funext a; apply Fin.ext
  show off a + 1 * (y a).val = _
  rw [ho a]; omega

/-- A copy's payload, out of the input at a batch's window: batch `b`, times from `256 t`. -/
theorem window_read {m : Memref sig .tc .hbm S4x2048x12x64 .f32} (hm : m.IsWhole) (A : Vec F S4x2048x12x64 .f32) (off : Fin 4 → ℕ) (b t : ℕ) (ht : t < 8)
    (ho : off = ![b, 256 * t, 0, 0]) (h : ∀ a, off a + S1x256x12x64.size a ≤ S4x2048x12x64.size a)
    (hs : ∀ a, (Rect.unit (s := S4x2048x12x64) off S1x256x12x64.size h).stride a = 1)
    (hq : S1x256x12x64.Squeezes S256x12x64) (a : Fin 256) (d : Fin 12) (e : Fin 64) (w : Fin 48) (hw : w.val = 12 * b + d.val) :
    View.read (Elt F) ((m.slice (Rect.unit (s := S4x2048x12x64) off S1x256x12x64.size h) hs).squeeze S256x12x64 hq).view (hm.unread A) (ix3 a d e)
      = rowG A (256 * t + a.val) (ix3 (0 : Fin 1) w e) := by
  subst ho
  refine (congrFun (Memref.read_squeeze_slice (Val := Elt F) m _ hs hq (show S1x256x12x64.ShapeCasts S256x12x64 by decide) (hm.unread A)) _).trans ?_
  refine (ValueIdx.shapeCast_1abc_abc_apply _ _ a d e).trans ?_
  refine (congrFun (hm.read_unread A) _).trans ?_
  unfold rowG
  refine congrArg A ?_
  funext x; apply Fin.ext
  have hb : b + 1 ≤ 4 := h 0
  have ha := a.isLt; have hd := d.isLt
  fin_cases x
  · show b + 1 * 0 = w.val / 12; omega
  · show 256 * t + 1 * a.val = (256 * t + a.val) % 2048; omega
  · show 0 + 1 * d.val = w.val % 12; omega
  · show 0 + 1 * e.val = e.val; omega

end Cert.KernelIdeal.Scan

end
-- ==== Proof.Ideal.Chunk.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Routed
public import Idealize.ShloMosaic.Lib.Pipeline.ValueKit
public import Idealize.ShloMosaic.Lib.Ring
public import Idealize.ShloMosaic.Lib.Tactic
public import Idealize.ShloMosaic.Lib.Exec
public import Idealize.ShloMosaic.Lib.ValueLayout
public import proofs.«01_k».proof.Proof.Ideal.Loop

@[expose] public section

set_option maxRecDepth 16384
set_option maxHeartbeats 4000000

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat UC)

variable {F : FTy → Type} [FloatOps F]

local notation "𝕄" => MT nD τ sig Unit (Elt F) ℕ (UC sig nD τ) ℕ

/-- Four windows of twelve rows, written over a scratch buffer, make the chunk. -/
theorem read_chunk {m : Memref sig .tc .vmem S256x48x64 .f32} (f : m.view.ty.Contents (Elt F)) (A : Vec F S4x2048x12x64 .f32) (t : ℕ)
    (w0 w1 w2 w3 : Vec F S256x12x64 .f32)
    (h0 : ∀ a, (![0, 0, 0] : Fin 3 → ℕ) a + S256x12x64.size a ≤ S256x48x64.size a) (h1 : ∀ a, (![0, 12, 0] : Fin 3 → ℕ) a + S256x12x64.size a ≤ S256x48x64.size a)
    (h2 : ∀ a, (![0, 24, 0] : Fin 3 → ℕ) a + S256x12x64.size a ≤ S256x48x64.size a) (h3 : ∀ a, (![0, 36, 0] : Fin 3 → ℕ) a + S256x12x64.size a ≤ S256x48x64.size a)
    (e0 : ∀ (a : Fin 256) (d : Fin 12) (e : Fin 64) (w : Fin 48), w.val = 12 * 0 + d.val → w0 (ix3 a d e) = rowG A (256 * t + a.val) (ix3 (0 : Fin 1) w e))
    (e1 : ∀ (a : Fin 256) (d : Fin 12) (e : Fin 64) (w : Fin 48), w.val = 12 * 1 + d.val → w1 (ix3 a d e) = rowG A (256 * t + a.val) (ix3 (0 : Fin 1) w e))
    (e2 : ∀ (a : Fin 256) (d : Fin 12) (e : Fin 64) (w : Fin 48), w.val = 12 * 2 + d.val → w2 (ix3 a d e) = rowG A (256 * t + a.val) (ix3 (0 : Fin 1) w e))
    (e3 : ∀ (a : Fin 256) (d : Fin 12) (e : Fin 64) (w : Fin 48), w.val = 12 * 3 + d.val → w3 (ix3 a d e) = rowG A (256 * t + a.val) (ix3 (0 : Fin 1) w e)) :
    View.read (Elt F) m.view (m.view.writes (Elt F) f
      [⟨Rect.unit (s := S256x48x64) ![0, 36, 0] S256x12x64.size h3, w3⟩, ⟨Rect.unit (s := S256x48x64) ![0, 24, 0] S256x12x64.size h2, w2⟩,
       ⟨Rect.unit (s := S256x48x64) ![0, 12, 0] S256x12x64.size h1, w1⟩, ⟨Rect.unit (s := S256x48x64) ![0, 0, 0] S256x12x64.size h0, w0⟩]) = chunk A t := by
  funext y
  have y0 : (y 0).val < 256 := (y 0).isLt
  have y1 : (y 1).val < 48 := (y 1).isLt
  have y2 : (y 2).val < 64 := (y 2).isLt
  have hit (o : ℕ) (ho : o ≤ (y 1).val) (ho' : (y 1).val < o + 12) (h : ∀ a, (![0, o, 0] : Fin 3 → ℕ) a + S256x12x64.size a ≤ S256x48x64.size a)
      (w : Vec F S256x12x64 .f32) (L : List (View.Piece (Elt F) S256x48x64 .f32)) (b : ℕ) (hb : o = 12 * b)
      (e : ∀ (a : Fin 256) (d : Fin 12) (e : Fin 64) (w' : Fin 48), w'.val = 12 * b + d.val → w (ix3 a d e) = rowG A (256 * t + a.val) (ix3 (0 : Fin 1) w' e)) :
      View.read (Elt F) m.view (m.view.writes (Elt F) f (⟨Rect.unit (s := S256x48x64) ![0, o, 0] S256x12x64.size h, w⟩ :: L)) y = chunk A t y := by
    refine (View.read_writes_cons_hit_of_coords (Val := Elt F) m.view f (Rect.unit (s := S256x48x64) ![0, o, 0] S256x12x64.size h) w L
      (ix3 (⟨(y 0).val, y0⟩ : Fin 256) (⟨(y 1).val - o, by omega⟩ : Fin 12) (⟨(y 2).val, y2⟩ : Fin 64)) y ?_).trans ?_
    · intro a
      fin_cases a
      · show (y 0).val = 0 + 1 * (y 0).val; omega
      · show (y 1).val = o + 1 * ((y 1).val - o); omega
      · show (y 2).val = 0 + 1 * (y 2).val; omega
    · exact e _ _ _ ⟨(y 1).val, y1⟩ (by show (y 1).val = 12 * b + ((y 1).val - o); omega)
  by_cases c3 : 36 ≤ (y 1).val
  · exact hit 36 c3 (by omega) h3 w3 _ 3 rfl e3
  rw [View.read_writes_cons_miss_of_axis m.view _ _ _ y 1 36 12 rfl rfl rfl (by omega)]
  by_cases c2 : 24 ≤ (y 1).val
  · exact hit 24 c2 (by omega) h2 w2 _ 2 rfl e2
  rw [View.read_writes_cons_miss_of_axis m.view _ _ _ y 1 24 12 rfl rfl rfl (by omega)]
  by_cases c1 : 12 ≤ (y 1).val
  · exact hit 12 c1 (by omega) h1 w1 _ 1 rfl e1
  rw [View.read_writes_cons_miss_of_axis m.view _ _ _ y 1 12 12 rfl rfl rfl (by omega)]
  exact hit 0 (by omega) (by omega) h0 w0 _ 0 rfl e0

/-- An output laid out batch, time, head, feature, its times of point `t` replaced by a chunk. -/
def setBlk (O : Vec F S4x2048x12x64 .f32) (t : ℕ) (r : Vec F S256x48x64 .f32) : Vec F S4x2048x12x64 .f32 := fun z =>
  if h : 256 * t ≤ (z 1).val ∧ (z 1).val < 256 * t + 256 then
    r (ix3 (⟨(z 1).val - 256 * t, by omega⟩ : Fin 256)
      (⟨12 * (z 0).val + (z 2).val, by have h0 : (z 0).val < 4 := (z 0).isLt; have h2 : (z 2).val < 12 := (z 2).isLt; omega⟩ : Fin 48) (⟨(z 3).val, (z 3).isLt⟩ : Fin 64))
  else O z

/-- The memory and momentum a point starts from: the inputs at the first point, otherwise what the point before left. -/
def start (t : ℕ) (M0 Mom0 M Mom : Vec F S48x64x64 .f32) : Vec F S48x64x64 .f32 × Vec F S48x64x64 .f32 := if t = 0 then (M0, Mom0) else (M, Mom)

/-- A copy out, of batch `b` and the times of point `t`, seen through the output. -/
theorem window_write {m : Memref sig .tc .hbm S4x2048x12x64 .f32} (g : m.view.ty.Contents (Elt F)) (off : Fin 4 → ℕ) (b t : ℕ)
    (ho : off = ![b, 256 * t, 0, 0]) (h : ∀ a, off a + S1x256x12x64.size a ≤ S4x2048x12x64.size a)
    (hs : ∀ a, (Rect.unit (s := S4x2048x12x64) off S1x256x12x64.size h).stride a = 1)
    (hq : S1x256x12x64.Squeezes S256x12x64) (w : Vec F S256x12x64 .f32) (z : S4x2048x12x64.Idx) :
    View.read (Elt F) m.view (View.write (Elt F)
        ((m.slice (Rect.unit (s := S4x2048x12x64) off S1x256x12x64.size h) hs).squeeze S256x12x64 hq).view g w Finset.univ) z
      = if c : (z 0).val = b ∧ 256 * t ≤ (z 1).val ∧ (z 1).val < 256 * t + 256 then
          w (ix3 (⟨(z 1).val - 256 * t, by omega⟩ : Fin 256) (⟨(z 2).val, (z 2).isLt⟩ : Fin 12) (⟨(z 3).val, (z 3).isLt⟩ : Fin 64))
        else View.read (Elt F) m.view g z := by
  subst ho
  have z2 : (z 2).val < 12 := (z 2).isLt
  have z3 : (z 3).val < 64 := (z 3).isLt
  refine (congrFun (congrArg (View.read (Elt F) m.view) (View.write_reshape_univ (Val := Elt F)
    (m.view.slice (Rect.unit (s := S4x2048x12x64) ![b, 256 * t, 0, 0] S1x256x12x64.size h)) (s' := S256x12x64) hq.numel_eq g w)) z).trans ?_
  by_cases c : (z 0).val = b ∧ 256 * t ≤ (z 1).val ∧ (z 1).val < 256 * t + 256
  · rw [dif_pos c]
    refine (View.read_writes_cons_hit_of_coords (Val := Elt F) m.view g (Rect.unit (s := S4x2048x12x64) ![b, 256 * t, 0, 0] S1x256x12x64.size h)
      (fun x => w ((Shape.reshapeEquiv hq.numel_eq).symm x)) []
      (ix4 (0 : Fin 1) (⟨(z 1).val - 256 * t, by omega⟩ : Fin 256) (⟨(z 2).val, z2⟩ : Fin 12) (⟨(z 3).val, z3⟩ : Fin 64)) z ?_).trans ?_
    · intro a
      fin_cases a
      · show (z 0).val = b + 1 * 0; omega
      · show (z 1).val = 256 * t + 1 * ((z 1).val - 256 * t); omega
      · show (z 2).val = 0 + 1 * (z 2).val; omega
      · show (z 3).val = 0 + 1 * (z 3).val; omega
    · refine congrArg w ((Equiv.symm_apply_eq _).mpr (Shape.reshapeEquiv_eq_of_rowMajor hq.numel_eq ?_).symm)
      show (S1x256x12x64.rowMajor _).val = (S256x12x64.rowMajor _).val
      rw [Shape.rowMajor_val_four, Shape.rowMajor_val_three]
      show ((0 * 256 + _) * 12 + _) * 64 + _ = (_ * 12 + _) * 64 + _
      rw [Nat.zero_mul, Nat.zero_add]
      rfl
  · rw [dif_neg c]
    by_cases c0 : (z 0).val = b
    · exact View.read_writes_cons_miss_of_axis m.view g ⟨Rect.unit (s := S4x2048x12x64) ![b, 256 * t, 0, 0] S1x256x12x64.size h, fun x => w ((Shape.reshapeEquiv hq.numel_eq).symm x)⟩ [] z 1 (256 * t) 256 rfl rfl rfl (by omega)
    · exact View.read_writes_cons_miss_of_axis m.view g ⟨Rect.unit (s := S4x2048x12x64) ![b, 256 * t, 0, 0] S1x256x12x64.size h, fun x => w ((Shape.reshapeEquiv hq.numel_eq).symm x)⟩ [] z 0 b 1 rfl rfl rfl (by omega)

/-- Rows `12 b` to `12 b + 11` of a chunk. -/
theorem out_read {m : Memref sig .tc .vmem S256x48x64 .f32} (hm : m.IsWhole) (X : Vec F S256x48x64 .f32) (o b : ℕ) (ho : o = 12 * b)
    (h : ∀ a, (![0, o, 0] : Fin 3 → ℕ) a + S256x12x64.size a ≤ S256x48x64.size a)
    (hs : ∀ a, (Rect.unit (s := S256x48x64) ![0, o, 0] S256x12x64.size h).stride a = 1) (a : Fin 256) (d : Fin 12) (e : Fin 64) (w : Fin 48)
    (hw : w.val = 12 * b + d.val) :
    View.read (Elt F) (m.slice (Rect.unit (s := S256x48x64) ![0, o, 0] S256x12x64.size h) hs).view (hm.unread X) (ix3 a d e) = X (ix3 a w e) := by
  refine (congrFun (hm.read_unread X) _).trans (congrArg X ?_)
  funext x; apply Fin.ext
  fin_cases x
  · show 0 + 1 * a.val = a.val; omega
  · show o + 1 * d.val = w.val; omega
  · show 0 + 1 * e.val = e.val; omega

/-- The four copies out of a chunk replace the times of the point. -/
theorem read_out {m : Memref sig .tc .hbm S4x2048x12x64 .f32} (g : m.view.ty.Contents (Elt F)) (O : Vec F S4x2048x12x64 .f32)
    (hg : View.read (Elt F) m.view g = O) (X : Vec F S256x48x64 .f32) (o1 o2 o3 o4 : Fin 4 → ℕ) (t : ℕ)
    (e1 : o1 = ![0, 256 * t, 0, 0]) (e2 : o2 = ![1, 256 * t, 0, 0]) (e3 : o3 = ![2, 256 * t, 0, 0]) (e4 : o4 = ![3, 256 * t, 0, 0])
    (h1 : ∀ a, o1 a + S1x256x12x64.size a ≤ S4x2048x12x64.size a) (h2 : ∀ a, o2 a + S1x256x12x64.size a ≤ S4x2048x12x64.size a)
    (h3 : ∀ a, o3 a + S1x256x12x64.size a ≤ S4x2048x12x64.size a) (h4 : ∀ a, o4 a + S1x256x12x64.size a ≤ S4x2048x12x64.size a)
    (s1 : ∀ a, (Rect.unit (s := S4x2048x12x64) o1 S1x256x12x64.size h1).stride a = 1) (s2 : ∀ a, (Rect.unit (s := S4x2048x12x64) o2 S1x256x12x64.size h2).stride a = 1)
    (s3 : ∀ a, (Rect.unit (s := S4x2048x12x64) o3 S1x256x12x64.size h3).stride a = 1) (s4 : ∀ a, (Rect.unit (s := S4x2048x12x64) o4 S1x256x12x64.size h4).stride a = 1)
    (q1 q2 q3 q4 : S1x256x12x64.Squeezes S256x12x64) (w1 w2 w3 w4 : Vec F S256x12x64 .f32)
    (p1 : ∀ (a : Fin 256) (d : Fin 12) (e : Fin 64) (w : Fin 48), w.val = 12 * 0 + d.val → w1 (ix3 a d e) = X (ix3 a w e))
    (p2 : ∀ (a : Fin 256) (d : Fin 12) (e : Fin 64) (w : Fin 48), w.val = 12 * 1 + d.val → w2 (ix3 a d e) = X (ix3 a w e))
    (p3 : ∀ (a : Fin 256) (d : Fin 12) (e : Fin 64) (w : Fin 48), w.val = 12 * 2 + d.val → w3 (ix3 a d e) = X (ix3 a w e))
    (p4 : ∀ (a : Fin 256) (d : Fin 12) (e : Fin 64) (w : Fin 48), w.val = 12 * 3 + d.val → w4 (ix3 a d e) = X (ix3 a w e)) :
    View.read (Elt F) m.view
      (View.write (Elt F) ((m.slice (Rect.unit (s := S4x2048x12x64) o4 S1x256x12x64.size h4) s4).squeeze S256x12x64 q4).view
        (View.write (Elt F) ((m.slice (Rect.unit (s := S4x2048x12x64) o3 S1x256x12x64.size h3) s3).squeeze S256x12x64 q3).view
          (View.write (Elt F) ((m.slice (Rect.unit (s := S4x2048x12x64) o2 S1x256x12x64.size h2) s2).squeeze S256x12x64 q2).view
            (View.write (Elt F) ((m.slice (Rect.unit (s := S4x2048x12x64) o1 S1x256x12x64.size h1) s1).squeeze S256x12x64 q1).view g w1 Finset.univ)
            w2 Finset.univ) w3 Finset.univ) w4 Finset.univ) = setBlk O t X := by
  subst hg
  funext z
  have z0 : (z 0).val < 4 := (z 0).isLt
  have z2 : (z 2).val < 12 := (z 2).isLt
  rw [window_write _ o4 3 t e4, window_write _ o3 2 t e3, window_write _ o2 1 t e2, window_write _ o1 0 t e1]
  unfold setBlk
  by_cases c : 256 * t ≤ (z 1).val ∧ (z 1).val < 256 * t + 256
  · rw [dif_pos c]
    by_cases c3 : (z 0).val = 3
    · rw [dif_pos ⟨c3, c⟩]; exact p4 _ _ _ _ (by show 12 * (z 0).val + (z 2).val = 12 * 3 + (z 2).val; omega)
    rw [dif_neg (fun h => c3 h.1)]
    by_cases c2 : (z 0).val = 2
    · rw [dif_pos ⟨c2, c⟩]; exact p3 _ _ _ _ (by show 12 * (z 0).val + (z 2).val = 12 * 2 + (z 2).val; omega)
    rw [dif_neg (fun h => c2 h.1)]
    by_cases c1 : (z 0).val = 1
    · rw [dif_pos ⟨c1, c⟩]; exact p2 _ _ _ _ (by show 12 * (z 0).val + (z 2).val = 12 * 1 + (z 2).val; omega)
    rw [dif_neg (fun h => c1 h.1)]
    rw [dif_pos ⟨by omega, c⟩]; exact p1 _ _ _ _ (by show 12 * (z 0).val + (z 2).val = 12 * 0 + (z 2).val; omega)
  · rw [dif_neg c, dif_neg (fun h => c h.2), dif_neg (fun h => c h.2), dif_neg (fun h => c h.2), dif_neg (fun h => c h.2)]

end Cert.KernelIdeal.Scan

end
-- ==== Proof.Ideal.Body.lean ====
module

public import proofs.«01_k».proof.Proof.Ideal.Chunk
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Routed
public import Idealize.ShloMosaic.Lib.Pipeline.ValueKit
public import Idealize.ShloMosaic.Lib.Ring
public import Idealize.ShloMosaic.Lib.Tactic
public import Idealize.ShloMosaic.Lib.Exec

@[expose] public section

set_option maxRecDepth 16384
set_option maxHeartbeats 4000000

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat UC)

variable {F : FTy → Type} [FloatOps F]

local notation "𝕄" => MT nD τ sig Unit (Elt F) ℕ (UC sig nD τ) ℕ

/-- The kernel's own semaphores: twelve for the copies in, four for the copies out. -/
abbrev osem : Fin 16 → SemLoc sig := fun n => .dma ⟨32 + n.val, by have := n.isLt; show 32 + n.val < _; exact Nat.lt_of_lt_of_le (by omega : 32 + n.val < 48) (by decide)⟩

/-- The reshape of the state to its own shape before the first store changes nothing. -/
theorem k1_pay15_id (x : Vec F S48x64x64 .f32) : k1_pay15 x = x := by
  unfold k1_pay15; exact shapeCast_self _ _

/-- The reshape of the momentum to its own shape before the second store changes nothing. -/
theorem k1_pay16_id (x : Vec F S48x64x64 .f32) : k1_pay16 x = x := by
  unfold k1_pay16; exact shapeCast_self _ _

/-- The scan's body at one grid point: from the staged blocks, the three operands and the output in their own memory and the free semaphores, it ends with the state, the momentum and the output rows of the chunk that the loop's trips give, and every semaphore free again. -/
theorem bodyRun (𝒱 : Variants) (c : Dev nD) (i : grid1.Coords) (arg1 : Memref sig .tc .hbm S4x2048x12x64 .f32) (harg1 : arg1.IsWhole) (arg2 : Memref sig .tc .hbm S4x2048x12x64 .f32) (harg2 : arg2.IsWhole) (arg3 : Memref sig .tc .hbm S4x2048x12x64 .f32) (harg3 : arg3.IsWhole) (arg4 : Memref sig .tc .vmem S48x64x64 .f32) (harg4 : arg4.IsWhole) (arg5 : Memref sig .tc .vmem S48x64x64 .f32) (harg5 : arg5.IsWhole) (arg6 : Memref sig .tc .vmem S192x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x128 .f32) (harg11 : arg11.IsWhole) (arg12 : Memref sig .tc .vmem S48x64 .f32) (harg12 : arg12.IsWhole) (arg13 : Memref sig .tc .vmem S48x64 .f32) (harg13 : arg13.IsWhole) (arg14 : Memref sig .tc .hbm S4x2048x12x64 .f32) (harg14 : arg14.IsWhole) (arg15 : Memref sig .tc .vmem S48x64x64 .f32) (harg15 : arg15.IsWhole) (arg16 : Memref sig .tc .vmem S48x64x64 .f32) (harg16 : arg16.IsWhole) (arg17 : Memref sig .tc .vmem S256x48x64 .f32) (harg17 : arg17.IsWhole) (arg18 : Memref sig .tc .vmem S256x48x64 .f32) (harg18 : arg18.IsWhole) (arg19 : Memref sig .tc .vmem S256x48x64 .f32) (harg19 : arg19.IsWhole) (arg20 : Memref sig .tc .vmem S256x48x64 .f32) (harg20 : arg20.IsWhole)
    (W : Waits sig Unit) (KK VV QQ OO : Vec F S4x2048x12x64 .f32)
    (M0 Mom0 : Vec F S48x64x64 .f32) (w1 : Vec F S192x128 .f32) (b1 : Vec F S1x128 .f32) (w2 : Vec F S128x64 .f32) (b2 : Vec F S1x64 .f32)
    (w3 : Vec F S64x128 .f32) (b3 : Vec F S1x128 .f32) (lr fg : Vec F S48x64 .f32) (M Mom : Vec F S48x64x64 .f32) (K V Q O : Vec F S256x48x64 .f32) :
    iprop(owns (c : Thread nD τ) arg1 fullShare KK ∗ owns (c : Thread nD τ) arg2 fullShare VV ∗ owns (c : Thread nD τ) arg3 fullShare QQ
      ∗ owns (c : Thread nD τ) arg4 fullShare M0 ∗ owns (c : Thread nD τ) arg5 fullShare Mom0
      ∗ owns (c : Thread nD τ) arg6 fullShare w1 ∗ owns (c : Thread nD τ) arg7 fullShare b1 ∗ owns (c : Thread nD τ) arg8 fullShare w2 ∗ owns (c : Thread nD τ) arg9 fullShare b2
      ∗ owns (c : Thread nD τ) arg10 fullShare w3 ∗ owns (c : Thread nD τ) arg11 fullShare b3 ∗ owns (c : Thread nD τ) arg12 fullShare lr ∗ owns (c : Thread nD τ) arg13 fullShare fg
      ∗ owns (c : Thread nD τ) arg14 fullShare OO ∗ owns (c : Thread nD τ) arg15 fullShare M ∗ owns (c : Thread nD τ) arg16 fullShare Mom
      ∗ owns (c : Thread nD τ) arg17 fullShare K ∗ owns (c : Thread nD τ) arg18 fullShare V ∗ owns (c : Thread nD τ) arg19 fullShare Q ∗ owns (c : Thread nD τ) arg20 fullShare O
      ∗ (semVal ((c : Thread nD τ), SemLoc.dma ((cc1_scratch4.slice (Rect.unit (s := S12) ![0] S1.size inb_S12_S1_0)).squeeze S_ squeezes_S1_S_).sem) 0 ∗ semVal ((c : Thread nD τ), SemLoc.dma ((cc1_scratch4.slice (Rect.unit (s := S12) ![1] S1.size inb_S12_S1_1)).squeeze S_ squeezes_S1_S_).sem) 0 ∗ semVal ((c : Thread nD τ), SemLoc.dma ((cc1_scratch4.slice (Rect.unit (s := S12) ![2] S1.size inb_S12_S1_2)).squeeze S_ squeezes_S1_S_).sem) 0 ∗ semVal ((c : Thread nD τ), SemLoc.dma ((cc1_scratch4.slice (Rect.unit (s := S12) ![3] S1.size inb_S12_S1_3)).squeeze S_ squeezes_S1_S_).sem) 0 ∗ semVal ((c : Thread nD τ), SemLoc.dma ((cc1_scratch4.slice (Rect.unit (s := S12) ![4] S1.size inb_S12_S1_4)).squeeze S_ squeezes_S1_S_).sem) 0 ∗ semVal ((c : Thread nD τ), SemLoc.dma ((cc1_scratch4.slice (Rect.unit (s := S12) ![5] S1.size inb_S12_S1_5)).squeeze S_ squeezes_S1_S_).sem) 0 ∗ semVal ((c : Thread nD τ), SemLoc.dma ((cc1_scratch4.slice (Rect.unit (s := S12) ![6] S1.size inb_S12_S1_6)).squeeze S_ squeezes_S1_S_).sem) 0 ∗ semVal ((c : Thread nD τ), SemLoc.dma ((cc1_scratch4.slice (Rect.unit (s := S12) ![7] S1.size inb_S12_S1_7)).squeeze S_ squeezes_S1_S_).sem) 0 ∗ semVal ((c : Thread nD τ), SemLoc.dma ((cc1_scratch4.slice (Rect.unit (s := S12) ![8] S1.size inb_S12_S1_8)).squeeze S_ squeezes_S1_S_).sem) 0 ∗ semVal ((c : Thread nD τ), SemLoc.dma ((cc1_scratch4.slice (Rect.unit (s := S12) ![9] S1.size inb_S12_S1_9)).squeeze S_ squeezes_S1_S_).sem) 0 ∗ semVal ((c : Thread nD τ), SemLoc.dma ((cc1_scratch4.slice (Rect.unit (s := S12) ![10] S1.size inb_S12_S1_10)).squeeze S_ squeezes_S1_S_).sem) 0 ∗ semVal ((c : Thread nD τ), SemLoc.dma ((cc1_scratch4.slice (Rect.unit (s := S12) ![11] S1.size inb_S12_S1_11)).squeeze S_ squeezes_S1_S_).sem) 0 ∗ semVal ((c : Thread nD τ), SemLoc.dma ((cc1_scratch5.slice (Rect.unit (s := S4) ![0] S1.size inb_S4_S1_0)).squeeze S_ squeezes_S1_S_).sem) 0 ∗ semVal ((c : Thread nD τ), SemLoc.dma ((cc1_scratch5.slice (Rect.unit (s := S4) ![1] S1.size inb_S4_S1_1)).squeeze S_ squeezes_S1_S_).sem) 0 ∗ semVal ((c : Thread nD τ), SemLoc.dma ((cc1_scratch5.slice (Rect.unit (s := S4) ![2] S1.size inb_S4_S1_2)).squeeze S_ squeezes_S1_S_).sem) 0 ∗ semVal ((c : Thread nD τ), SemLoc.dma ((cc1_scratch5.slice (Rect.unit (s := S4) ![3] S1.size inb_S4_S1_3)).squeeze S_ squeezes_S1_S_).sem) 0)
      ∗ owes (c : Thread nD τ) 0 W : sProp 𝕄)
    ⊢ wp frame (wpE (defs₀ (F := F)) 𝒱 (c : Thread nD τ) none) Set.univ (cc1_titans_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cc1_scratch4 cc1_scratch5)
    (fun _ => iprop(owns (c : Thread nD τ) arg1 fullShare KK ∗ owns (c : Thread nD τ) arg2 fullShare VV ∗ owns (c : Thread nD τ) arg3 fullShare QQ
      ∗ owns (c : Thread nD τ) arg4 fullShare M0 ∗ owns (c : Thread nD τ) arg5 fullShare Mom0
      ∗ owns (c : Thread nD τ) arg6 fullShare w1 ∗ owns (c : Thread nD τ) arg7 fullShare b1 ∗ owns (c : Thread nD τ) arg8 fullShare w2 ∗ owns (c : Thread nD τ) arg9 fullShare b2
      ∗ owns (c : Thread nD τ) arg10 fullShare w3 ∗ owns (c : Thread nD τ) arg11 fullShare b3 ∗ owns (c : Thread nD τ) arg12 fullShare lr ∗ owns (c : Thread nD τ) arg13 fullShare fg
      ∗ owns (c : Thread nD τ) arg14 fullShare (setBlk OO (i 0).val (outRows (chain w1 b1 w2 b2 w3 b3 lr fg (fun j => rowG KK (256 * (i 0).val + j)) (fun j => rowG VV (256 * (i 0).val + j)) (start (i 0).val M0 Mom0 M Mom)) (fun j => rowG QQ (256 * (i 0).val + j)) O 256)) ∗ owns (c : Thread nD τ) arg15 fullShare (chain w1 b1 w2 b2 w3 b3 lr fg (fun j => rowG KK (256 * (i 0).val + j)) (fun j => rowG VV (256 * (i 0).val + j)) (start (i 0).val M0 Mom0 M Mom) 256).1 ∗ owns (c : Thread nD τ) arg16 fullShare (chain w1 b1 w2 b2 w3 b3 lr fg (fun j => rowG KK (256 * (i 0).val + j)) (fun j => rowG VV (256 * (i 0).val + j)) (start (i 0).val M0 Mom0 M Mom) 256).2
      ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X)
      ∗ (semVal ((c : Thread nD τ), SemLoc.dma ((cc1_scratch4.slice (Rect.unit (s := S12) ![0] S1.size inb_S12_S1_0)).squeeze S_ squeezes_S1_S_).sem) 0 ∗ semVal ((c : Thread nD τ), SemLoc.dma ((cc1_scratch4.slice (Rect.unit (s := S12) ![1] S1.size inb_S12_S1_1)).squeeze S_ squeezes_S1_S_).sem) 0 ∗ semVal ((c : Thread nD τ), SemLoc.dma ((cc1_scratch4.slice (Rect.unit (s := S12) ![2] S1.size inb_S12_S1_2)).squeeze S_ squeezes_S1_S_).sem) 0 ∗ semVal ((c : Thread nD τ), SemLoc.dma ((cc1_scratch4.slice (Rect.unit (s := S12) ![3] S1.size inb_S12_S1_3)).squeeze S_ squeezes_S1_S_).sem) 0 ∗ semVal ((c : Thread nD τ), SemLoc.dma ((cc1_scratch4.slice (Rect.unit (s := S12) ![4] S1.size inb_S12_S1_4)).squeeze S_ squeezes_S1_S_).sem) 0 ∗ semVal ((c : Thread nD τ), SemLoc.dma ((cc1_scratch4.slice (Rect.unit (s := S12) ![5] S1.size inb_S12_S1_5)).squeeze S_ squeezes_S1_S_).sem) 0 ∗ semVal ((c : Thread nD τ), SemLoc.dma ((cc1_scratch4.slice (Rect.unit (s := S12) ![6] S1.size inb_S12_S1_6)).squeeze S_ squeezes_S1_S_).sem) 0 ∗ semVal ((c : Thread nD τ), SemLoc.dma ((cc1_scratch4.slice (Rect.unit (s := S12) ![7] S1.size inb_S12_S1_7)).squeeze S_ squeezes_S1_S_).sem) 0 ∗ semVal ((c : Thread nD τ), SemLoc.dma ((cc1_scratch4.slice (Rect.unit (s := S12) ![8] S1.size inb_S12_S1_8)).squeeze S_ squeezes_S1_S_).sem) 0 ∗ semVal ((c : Thread nD τ), SemLoc.dma ((cc1_scratch4.slice (Rect.unit (s := S12) ![9] S1.size inb_S12_S1_9)).squeeze S_ squeezes_S1_S_).sem) 0 ∗ semVal ((c : Thread nD τ), SemLoc.dma ((cc1_scratch4.slice (Rect.unit (s := S12) ![10] S1.size inb_S12_S1_10)).squeeze S_ squeezes_S1_S_).sem) 0 ∗ semVal ((c : Thread nD τ), SemLoc.dma ((cc1_scratch4.slice (Rect.unit (s := S12) ![11] S1.size inb_S12_S1_11)).squeeze S_ squeezes_S1_S_).sem) 0 ∗ semVal ((c : Thread nD τ), SemLoc.dma ((cc1_scratch5.slice (Rect.unit (s := S4) ![0] S1.size inb_S4_S1_0)).squeeze S_ squeezes_S1_S_).sem) 0 ∗ semVal ((c : Thread nD τ), SemLoc.dma ((cc1_scratch5.slice (Rect.unit (s := S4) ![1] S1.size inb_S4_S1_1)).squeeze S_ squeezes_S1_S_).sem) 0 ∗ semVal ((c : Thread nD τ), SemLoc.dma ((cc1_scratch5.slice (Rect.unit (s := S4) ![2] S1.size inb_S4_S1_2)).squeeze S_ squeezes_S1_S_).sem) 0 ∗ semVal ((c : Thread nD τ), SemLoc.dma ((cc1_scratch5.slice (Rect.unit (s := S4) ![3] S1.size inb_S4_S1_3)).squeeze S_ squeezes_S1_S_).sem) 0)
      ∗ ∃ W, owes (c : Thread nD τ) 0 W)) := by
  simp only [cc1_titans_scan_eq_skeleton]; unfold cc1_titans_scan_skel
  simp only [k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨S0, S1, S2, S3, S4, S5, S6, S7, S8, S9, S10, S11, S12, S13, S14, S15⟩, HO⟩
  obtain rfl := harg1.eq_unread h1; obtain rfl := harg2.eq_unread h2; obtain rfl := harg3.eq_unread h3; obtain rfl := harg4.eq_unread h4; obtain rfl := harg5.eq_unread h5; obtain rfl := harg6.eq_unread h6; obtain rfl := harg7.eq_unread h7; obtain rfl := harg8.eq_unread h8; obtain rfl := harg9.eq_unread h9; obtain rfl := harg10.eq_unread h10; obtain rfl := harg11.eq_unread h11; obtain rfl := harg12.eq_unread h12; obtain rfl := harg13.eq_unread h13; obtain rfl := harg14.eq_unread h14; obtain rfl := harg15.eq_unread h15; obtain rfl := harg16.eq_unread h16; obtain rfl := harg17.eq_unread h17; obtain rfl := harg18.eq_unread h18; obtain rfl := harg19.eq_unread h19; obtain rfl := harg20.eq_unread h20
  clear h1 h2 h3 h4 h5 h6 h7 h8 h9 h10 h11 h12 h13 h14 h15 h16 h17 h18 h19 h20
  set_option sl_exec.dmaWindow true in set_option sl_exec.dmaWindowSet true in sl_exec
  have hi : (i 0).val < 8 := (i 0).isLt
  have e6 : bodyRun.sl.r c arg6 harg6 w1 = w1 := by delta bodyRun.sl.r; exact readAt_whole harg6 _ _ (by decide) _
  have e7 : bodyRun.sl.r_1 c arg7 harg7 b1 = k1_pay17 b1 := by delta bodyRun.sl.r_1; exact congrArg k1_pay17 (readAt_whole harg7 _ _ (by decide) _)
  have e8 : bodyRun.sl.r_2 c arg8 harg8 w2 = w2 := by delta bodyRun.sl.r_2; exact readAt_whole harg8 _ _ (by decide) _
  have e9 : bodyRun.sl.r_3 c arg9 harg9 b2 = k1_pay18 b2 := by delta bodyRun.sl.r_3; exact congrArg k1_pay18 (readAt_whole harg9 _ _ (by decide) _)
  have e10 : bodyRun.sl.r_4 c arg10 harg10 w3 = w3 := by delta bodyRun.sl.r_4; exact readAt_whole harg10 _ _ (by decide) _
  have hc : bodyRun.sl.v2 i = 1#1 ↔ (i 0).val = 0 := by
    delta bodyRun.sl.v2 bodyRun.sl.v1 bodyRun.sl.v0
    generalize (i 0).val = n at hi
    interval_cases n <;> decide
  sl_for (Inv c arg15 arg16 arg17 arg18 arg19 arg20 (i 0).val w1 b1 w2 b2 w3 b3 lr fg KK VV QQ (start (i 0).val M0 Mom0 M Mom) O) $$ [H15 H16 H17 H18 H19 H20]
  case region =>
    intro k _
    delta bodyRun.sl.prog.body_1
    rw [e6, e7, e8, e9, e10, readAt_whole harg11 _ _ (by decide) _, readAt_whole harg12 _ _ (by decide) _, readAt_whole harg13 _ _ (by decide) _]
    exact trip_inv _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  · unfold Inv owns
    isplitl [H17]
    · iexists _; isplitr
      rotate_left
      · iexact H17
      ipureintro
      refine read_chunk _ KK _ _ _ _ _ _ _ _ _ ?_ ?_ ?_ ?_
      · intro a d e w hw; delta bodyRun.sl.dma6; exact window_read harg1 KK _ 0 _ hi (k1_off1_eq i) _ _ _ a d e w hw
      · intro a d e w hw; delta bodyRun.sl.dma6_1; exact window_read harg1 KK _ 1 _ hi (k1_off2_eq i) _ _ _ a d e w hw
      · intro a d e w hw; delta bodyRun.sl.dma6_2; exact window_read harg1 KK _ 2 _ hi (k1_off3_eq i) _ _ _ a d e w hw
      · intro a d e w hw; delta bodyRun.sl.dma6_3; exact window_read harg1 KK _ 3 _ hi (k1_off4_eq i) _ _ _ a d e w hw
    isplitl [H18]
    · iexists _; isplitr
      rotate_left
      · iexact H18
      ipureintro
      refine read_chunk _ VV _ _ _ _ _ _ _ _ _ ?_ ?_ ?_ ?_
      · intro a d e w hw; delta bodyRun.sl.dma6_4; exact window_read harg2 VV _ 0 _ hi (k1_off1_eq i) _ _ _ a d e w hw
      · intro a d e w hw; delta bodyRun.sl.dma6_5; exact window_read harg2 VV _ 1 _ hi (k1_off2_eq i) _ _ _ a d e w hw
      · intro a d e w hw; delta bodyRun.sl.dma6_6; exact window_read harg2 VV _ 2 _ hi (k1_off3_eq i) _ _ _ a d e w hw
      · intro a d e w hw; delta bodyRun.sl.dma6_7; exact window_read harg2 VV _ 3 _ hi (k1_off4_eq i) _ _ _ a d e w hw
    isplitl [H19]
    · iexists _; isplitr
      rotate_left
      · iexact H19
      ipureintro
      refine read_chunk _ QQ _ _ _ _ _ _ _ _ _ ?_ ?_ ?_ ?_
      · intro a d e w hw; delta bodyRun.sl.dma6_8; exact window_read harg3 QQ _ 0 _ hi (k1_off1_eq i) _ _ _ a d e w hw
      · intro a d e w hw; delta bodyRun.sl.dma6_9; exact window_read harg3 QQ _ 1 _ hi (k1_off2_eq i) _ _ _ a d e w hw
      · intro a d e w hw; delta bodyRun.sl.dma6_10; exact window_read harg3 QQ _ 2 _ hi (k1_off3_eq i) _ _ _ a d e w hw
      · intro a d e w hw; delta bodyRun.sl.dma6_11; exact window_read harg3 QQ _ 3 _ hi (k1_off4_eq i) _ _ _ a d e w hw
    isplitl [H15]
    · iexists _; isplitr
      rotate_left
      · iexact H15
      ipureintro
      by_cases h : (i 0).val = 0
      · rw [dif_pos (hc.mpr h)]
        refine (read_writes_whole3 _ _ _).trans ?_
        show _ = (start (i 0).val M0 Mom0 M Mom).1
        unfold start; rw [if_pos h]
        exact (congrArg k1_pay15 (readAt_whole (F := F) harg4 M0 ![0, 0, 0] (by decide) _)).trans (k1_pay15_id M0)
      · rw [dif_neg (fun h' => h (hc.mp h'))]
        show _ = (start (i 0).val M0 Mom0 M Mom).1
        unfold start; rw [if_neg h]
        exact harg15.read_unread _
    isplitl [H16]
    · iexists _; isplitr
      rotate_left
      · iexact H16
      ipureintro
      by_cases h : (i 0).val = 0
      · rw [dif_pos (hc.mpr h)]
        refine (read_writes_whole3 _ _ _).trans ?_
        show _ = (start (i 0).val M0 Mom0 M Mom).2
        unfold start; rw [if_pos h]
        exact (congrArg k1_pay16 (readAt_whole (F := F) harg5 Mom0 ![0, 0, 0] (by decide) _)).trans (k1_pay16_id Mom0)
      · rw [dif_neg (fun h' => h (hc.mp h'))]
        show _ = (start (i 0).val M0 Mom0 M Mom).2
        unfold start; rw [if_neg h]
        exact harg16.read_unread _
    iexists _; isplitr
    rotate_left
    · iexact H20
    ipureintro
    refine (harg20.read_unread _).trans ?_
    funext y; unfold outRows; rw [if_neg (by omega)]
  iintro %_ HI; unfold Inv owns
  icases HI with ⟨⟨%g17, %h17, H17⟩, ⟨%g18, %h18, H18⟩, ⟨%g19, %h19, H19⟩, ⟨%g15, %h15, H15⟩, ⟨%g16, %h16, H16⟩, ⟨%g20, %h20, H20⟩⟩
  rw [show Scf.trips k1_t1_loop.lb k1_t1_loop.ub k1_t1_loop.st = 256 from trips_eq] at h15 h16 h20
  obtain rfl := harg20.eq_unread h20
  clear h20
  set_option sl_exec.dmaWindow true in set_option sl_exec.dmaWindowSet true in sl_exec
  sl_step
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr
    rotate_left
    · iexact H14
    ipureintro
    delta bodyRun.sl.H14_w3 bodyRun.sl.H14_w2 bodyRun.sl.H14_w1
    refine read_out _ _ (harg14.read_unread _) _ _ _ _ _ (i 0).val (k1_off1_eq i) (k1_off2_eq i) (k1_off3_eq i) (k1_off4_eq i) _ _ _ _ _ _ _ _ _ _ _ _ _ _ _ _ ?_ ?_ ?_ ?_
    · intro a d e w hw; delta bodyRun.sl.dma0; exact out_read harg20 _ _ 0 rfl _ _ a d e w hw
    · intro a d e w hw; delta bodyRun.sl.dma0_1; exact out_read harg20 _ _ 1 rfl _ _ a d e w hw
    · intro a d e w hw; delta bodyRun.sl.dma0_2; exact out_read harg20 _ _ 2 rfl _ _ a d e w hw
    · intro a d e w hw; delta bodyRun.sl.dma0_3; exact out_read harg20 _ _ 3 rfl _ _ a d e w hw
  isplitl [H15]
  · iexists _; isplitr; · ipureintro; exact h15
    iexact H15
  isplitl [H16]
  · iexists _; isplitr; · ipureintro; exact h16
    iexact H16
  isplitl [H17]
  · iexists _; iexists _; isplitr
    on_goal 2 => iexact H17
    ipureintro; rfl
  isplitl [H18]
  · iexists _; iexists _; isplitr
    on_goal 2 => iexact H18
    ipureintro; rfl
  isplitl [H19]
  · iexists _; iexists _; isplitr
    on_goal 2 => iexact H19
    ipureintro; rfl
  isplitl [H20]
  · iexists _; iexists _; isplitr
    on_goal 2 => iexact H20
    ipureintro; rfl
  isplitr [HO]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact S15
  iexists _; iexact HO

end Cert.KernelIdeal.Scan

end
-- ==== Proof.Ideal.K0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec0 c` at any index and level type. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Ix ℕ U Lvl cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Ix ℕ U Lvl cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Ix ℕ U Lvl cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Ix ℕ U Lvl cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Ix ℕ U Lvl cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Ix ℕ U Lvl cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Ix ℕ U Lvl cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Ix ℕ U Lvl cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Ix ℕ U Lvl cfg0 c) (hA : dat.A 10 = V c (Pipeline.arrRef spec0 10))
    (hafter : ∀ t, dat.after 10 t = iblk V c 10 t) (t : Fin cfg0.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Ix ℕ U Lvl cfg0 c) (hA : dat.A 11 = V c (Pipeline.arrRef spec0 11))
    (hafter : ∀ t, dat.after 11 t = iblk V c 11 t) (t : Fin cfg0.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Ix ℕ U Lvl cfg0 c) (hA : dat.A 12 = V c (Pipeline.arrRef spec0 12))
    (hafter : ∀ t, dat.after 12 t = iblk V c 12 t) (t : Fin cfg0.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 13, through which its contents are stated (`View.read_writes_of_cover`: the
    choice does not matter). -/
abbrev VO0_13 : View sig .tc .vmem S1x256x768 .f32 := (Memref.whole cc0_stg13_0 : Memref sig .tc .vmem S1x256x768 .f32).view
/-- One staging buffer of output window 14, through which its contents are stated (`View.read_writes_of_cover`: the
    choice does not matter). -/
abbrev VO0_14 : View sig .tc .vmem S1x256x768 .f32 := (Memref.whole cc0_stg14_0 : Memref sig .tc .vmem S1x256x768 .f32).view
/-- One staging buffer of output window 15, through which its contents are stated (`View.read_writes_of_cover`: the
    choice does not matter). -/
abbrev VO0_15 : View sig .tc .vmem S1x256x768 .f32 := (Memref.whole cc0_stg15_0 : Memref sig .tc .vmem S1x256x768 .f32).view
/-- Each window's current staging memref at point `t`, spelled as the pipeline passes it (`bodyAt0`), and its wholeness. -/
abbrev ms0_0 (t : Fin cfg0.N) : Memref sig .tc .vmem S1x256x768 .f32 := win0_0.stage (cfg0.slots t 0)
/-- Window 0's staging buffer is a whole one. -/
abbrev hs0_0 (t : Fin cfg0.N) : (ms0_0 t).IsWhole := hstage0_0 ((cfg0.slots t 0).cast nbuf0_0)
/-- Window 1's staging buffer at the point. -/
abbrev ms0_1 (t : Fin cfg0.N) : Memref sig .tc .vmem S768x768 .f32 := win0_1.stage (cfg0.slots t 1)
/-- Window 1's staging buffer is a whole one. -/
abbrev hs0_1 (t : Fin cfg0.N) : (ms0_1 t).IsWhole := hstage0_1 ((cfg0.slots t 1).cast nbuf0_1)
/-- Window 2's staging buffer at the point. -/
abbrev ms0_2 (t : Fin cfg0.N) : Memref sig .tc .vmem S768x768 .f32 := win0_2.stage (cfg0.slots t 2)
/-- Window 2's staging buffer is a whole one. -/
abbrev hs0_2 (t : Fin cfg0.N) : (ms0_2 t).IsWhole := hstage0_2 ((cfg0.slots t 2).cast nbuf0_2)
/-- Window 3's staging buffer at the point. -/
abbrev ms0_3 (t : Fin cfg0.N) : Memref sig .tc .vmem S768x768 .f32 := win0_3.stage (cfg0.slots t 3)
/-- Window 3's staging buffer is a whole one. -/
abbrev hs0_3 (t : Fin cfg0.N) : (ms0_3 t).IsWhole := hstage0_3 ((cfg0.slots t 3).cast nbuf0_3)
/-- Window 4's staging buffer at the point. -/
abbrev ms0_4 (t : Fin cfg0.N) : Memref sig .tc .vmem S1x768 .f32 := win0_4.stage (cfg0.slots t 4)
/-- Window 4's staging buffer is a whole one. -/
abbrev hs0_4 (t : Fin cfg0.N) : (ms0_4 t).IsWhole := hstage0_4 ((cfg0.slots t 4).cast nbuf0_4)
/-- Window 5's staging buffer at the point. -/
abbrev ms0_5 (t : Fin cfg0.N) : Memref sig .tc .vmem S1x768 .f32 := win0_5.stage (cfg0.slots t 5)
/-- Window 5's staging buffer is a whole one. -/
abbrev hs0_5 (t : Fin cfg0.N) : (ms0_5 t).IsWhole := hstage0_5 ((cfg0.slots t 5).cast nbuf0_5)
/-- Window 6's staging buffer at the point. -/
abbrev ms0_6 (t : Fin cfg0.N) : Memref sig .tc .vmem S768x12 .f32 := win0_6.stage (cfg0.slots t 6)
/-- Window 6's staging buffer is a whole one. -/
abbrev hs0_6 (t : Fin cfg0.N) : (ms0_6 t).IsWhole := hstage0_6 ((cfg0.slots t 6).cast nbuf0_6)
/-- Window 7's staging buffer at the point. -/
abbrev ms0_7 (t : Fin cfg0.N) : Memref sig .tc .vmem S1x768 .f32 := win0_7.stage (cfg0.slots t 7)
/-- Window 7's staging buffer is a whole one. -/
abbrev hs0_7 (t : Fin cfg0.N) : (ms0_7 t).IsWhole := hstage0_7 ((cfg0.slots t 7).cast nbuf0_7)
/-- Window 8's staging buffer at the point. -/
abbrev ms0_8 (t : Fin cfg0.N) : Memref sig .tc .vmem S1x768 .f32 := win0_8.stage (cfg0.slots t 8)
/-- Window 8's staging buffer is a whole one. -/
abbrev hs0_8 (t : Fin cfg0.N) : (ms0_8 t).IsWhole := hstage0_8 ((cfg0.slots t 8).cast nbuf0_8)
/-- Window 9's staging buffer at the point. -/
abbrev ms0_9 (t : Fin cfg0.N) : Memref sig .tc .vmem S1x768 .f32 := win0_9.stage (cfg0.slots t 9)
/-- Window 9's staging buffer is a whole one. -/
abbrev hs0_9 (t : Fin cfg0.N) : (ms0_9 t).IsWhole := hstage0_9 ((cfg0.slots t 9).cast nbuf0_9)
/-- Window 10's staging buffer at the point. -/
abbrev ms0_10 (t : Fin cfg0.N) : Memref sig .tc .vmem S1x768 .f32 := win0_10.stage (cfg0.slots t 10)
/-- Window 10's staging buffer is a whole one. -/
abbrev hs0_10 (t : Fin cfg0.N) : (ms0_10 t).IsWhole := hstage0_10 ((cfg0.slots t 10).cast nbuf0_10)
/-- Window 11's staging buffer at the point. -/
abbrev ms0_11 (t : Fin cfg0.N) : Memref sig .tc .vmem S1x768 .f32 := win0_11.stage (cfg0.slots t 11)
/-- Window 11's staging buffer is a whole one. -/
abbrev hs0_11 (t : Fin cfg0.N) : (ms0_11 t).IsWhole := hstage0_11 ((cfg0.slots t 11).cast nbuf0_11)
/-- Window 12's staging buffer at the point. -/
abbrev ms0_12 (t : Fin cfg0.N) : Memref sig .tc .vmem S1x768 .f32 := win0_12.stage (cfg0.slots t 12)
/-- Window 12's staging buffer is a whole one. -/
abbrev hs0_12 (t : Fin cfg0.N) : (ms0_12 t).IsWhole := hstage0_12 ((cfg0.slots t 12).cast nbuf0_12)
/-- Window 13's staging buffer at the point. -/
abbrev ms0_13 (t : Fin cfg0.N) : Memref sig .tc .vmem S1x256x768 .f32 := win0_13.stage (cfg0.slots t 13)
/-- Window 13's staging buffer is a whole one. -/
abbrev hs0_13 (t : Fin cfg0.N) : (ms0_13 t).IsWhole := hstage0_13 ((cfg0.slots t 13).cast nbuf0_13)
/-- Window 14's staging buffer at the point. -/
abbrev ms0_14 (t : Fin cfg0.N) : Memref sig .tc .vmem S1x256x768 .f32 := win0_14.stage (cfg0.slots t 14)
/-- Window 14's staging buffer is a whole one. -/
abbrev hs0_14 (t : Fin cfg0.N) : (ms0_14 t).IsWhole := hstage0_14 ((cfg0.slots t 14).cast nbuf0_14)
/-- Window 15's staging buffer at the point. -/
abbrev ms0_15 (t : Fin cfg0.N) : Memref sig .tc .vmem S1x256x768 .f32 := win0_15.stage (cfg0.slots t 15)
/-- Window 15's staging buffer is a whole one. -/
abbrev hs0_15 (t : Fin cfg0.N) : (ms0_15 t).IsWhole := hstage0_15 ((cfg0.slots t 15).cast nbuf0_15)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg3 : Memref sig .tc .vmem S1x256x768 .f32) (harg3 : arg3.IsWhole) (arg4 : Memref sig .tc .vmem S768x768 .f32) (harg4 : arg4.IsWhole) (arg5 : Memref sig .tc .vmem S768x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S768x12 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S1x256x768 .f32) (harg16 : arg16.IsWhole) (arg17 : Memref sig .tc .vmem S1x256x768 .f32) (harg17 : arg17.IsWhole) (arg18 : Memref sig .tc .vmem S1x256x768 .f32) (harg18 : arg18.IsWhole)
    (x0 : Vec F S1x256x768 .f32) (x1 : Vec F S768x768 .f32) (x2 : Vec F S768x768 .f32) (x3 : Vec F S768x768 .f32) (x4 : Vec F S1x768 .f32) (x5 : Vec F S1x768 .f32) (x6 : Vec F S768x12 .f32) (x7 : Vec F S1x768 .f32) (x8 : Vec F S1x768 .f32) (x9 : Vec F S1x768 .f32) (x10 : Vec F S1x768 .f32) (x11 : Vec F S1x768 .f32) (x12 : Vec F S1x768 .f32) :
    Σ' (L13 : List (View.Piece (Elt F) S1x256x768 .f32)), Σ' (L14 : List (View.Piece (Elt F) S1x256x768 .f32)), { L15 : List (View.Piece (Elt F) S1x256x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f L14) ∗ (∃ f, arg18.view.loc (c : Thread nD τ) ↦[arg18.view.set]{fullShare} arg18.view.writes (Elt F) f L15)) -∗ K ⟨⟩))
          ⊢ wp frame (wpE (defs₀ (F := F)) 𝒱₀ c none) E (cc0_titans_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_titans_proj_eq_skeleton]; unfold cc0_titans_proj_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]; · iexists _; iexact H13
    isplitl [H14]; · iexists _; iexact H14
    iexists _; iexact H15

/-- The run's pieces for output 13 tile its block (1 store of `S1x256x768`, checked by the kernel's evaluation: Lib/Ring.lean `Piece.tiledL`, linear in the pieces, through a loop's `@[irreducible]` trip theorem too), so they cover it. -/
theorem cover0_A_13 (c : Dev nD) (i : grid0.Coords) (arg3 : Memref sig .tc .vmem S1x256x768 .f32) (harg3 : arg3.IsWhole) (arg4 : Memref sig .tc .vmem S768x768 .f32) (harg4 : arg4.IsWhole) (arg5 : Memref sig .tc .vmem S768x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S768x12 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S1x256x768 .f32) (harg16 : arg16.IsWhole) (arg17 : Memref sig .tc .vmem S1x256x768 .f32) (harg17 : arg17.IsWhole) (arg18 : Memref sig .tc .vmem S1x256x768 .f32) (harg18 : arg18.IsWhole)
    (x0 : Vec F S1x256x768 .f32) (x1 : Vec F S768x768 .f32) (x2 : Vec F S768x768 .f32) (x3 : Vec F S768x768 .f32) (x4 : Vec F S1x768 .f32) (x5 : Vec F S1x768 .f32) (x6 : Vec F S768x12 .f32) (x7 : Vec F S1x768 .f32) (x8 : Vec F S1x768 .f32) (x9 : Vec F S1x768 .f32) (x10 : Vec F S1x768 .f32) (x11 : Vec F S1x768 .f32) (x12 : Vec F S1x768 .f32) (y : S1x256x768.Idx) :
    ∃ pc ∈ (kernelRun0_A (Ix := Ix) (U := U) (Lvl := Lvl) 𝒱₀ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).1, y ∈ pc.1.set :=
  View.cover_of_tiledL (kernelRun0_A (Ix := Ix) (U := U) (Lvl := Lvl) 𝒱₀ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).1 S1x256x768.size (by sl_kernel_rfl) y

/-- What the run leaves in output 13's staging buffer: its pieces read back over junk. -/
def out0_A_13 (c : Dev nD) (i : grid0.Coords) (arg3 : Memref sig .tc .vmem S1x256x768 .f32) (harg3 : arg3.IsWhole) (arg4 : Memref sig .tc .vmem S768x768 .f32) (harg4 : arg4.IsWhole) (arg5 : Memref sig .tc .vmem S768x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S768x12 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S1x256x768 .f32) (harg16 : arg16.IsWhole) (arg17 : Memref sig .tc .vmem S1x256x768 .f32) (harg17 : arg17.IsWhole) (arg18 : Memref sig .tc .vmem S1x256x768 .f32) (harg18 : arg18.IsWhole)
    (x0 : Vec F S1x256x768 .f32) (x1 : Vec F S768x768 .f32) (x2 : Vec F S768x768 .f32) (x3 : Vec F S768x768 .f32) (x4 : Vec F S1x768 .f32) (x5 : Vec F S1x768 .f32) (x6 : Vec F S768x12 .f32) (x7 : Vec F S1x768 .f32) (x8 : Vec F S1x768 .f32) (x9 : Vec F S1x768 .f32) (x10 : Vec F S1x768 .f32) (x11 : Vec F S1x768 .f32) (x12 : Vec F S1x768 .f32) : Vec F S1x256x768 .f32 :=
  VO0_13.read (Elt F) (VO0_13.writes (Elt F) VO0_13.junk (kernelRun0_A (Ix := Ix) (U := U) (Lvl := Lvl) 𝒱₀ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).1)

/-- The run's pieces for output 14 tile its block (1 store of `S1x256x768`, checked by the kernel's evaluation: Lib/Ring.lean `Piece.tiledL`, linear in the pieces, through a loop's `@[irreducible]` trip theorem too), so they cover it. -/
theorem cover0_A_14 (c : Dev nD) (i : grid0.Coords) (arg3 : Memref sig .tc .vmem S1x256x768 .f32) (harg3 : arg3.IsWhole) (arg4 : Memref sig .tc .vmem S768x768 .f32) (harg4 : arg4.IsWhole) (arg5 : Memref sig .tc .vmem S768x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S768x12 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S1x256x768 .f32) (harg16 : arg16.IsWhole) (arg17 : Memref sig .tc .vmem S1x256x768 .f32) (harg17 : arg17.IsWhole) (arg18 : Memref sig .tc .vmem S1x256x768 .f32) (harg18 : arg18.IsWhole)
    (x0 : Vec F S1x256x768 .f32) (x1 : Vec F S768x768 .f32) (x2 : Vec F S768x768 .f32) (x3 : Vec F S768x768 .f32) (x4 : Vec F S1x768 .f32) (x5 : Vec F S1x768 .f32) (x6 : Vec F S768x12 .f32) (x7 : Vec F S1x768 .f32) (x8 : Vec F S1x768 .f32) (x9 : Vec F S1x768 .f32) (x10 : Vec F S1x768 .f32) (x11 : Vec F S1x768 .f32) (x12 : Vec F S1x768 .f32) (y : S1x256x768.Idx) :
    ∃ pc ∈ (kernelRun0_A (Ix := Ix) (U := U) (Lvl := Lvl) 𝒱₀ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).2.1, y ∈ pc.1.set :=
  View.cover_of_tiledL (kernelRun0_A (Ix := Ix) (U := U) (Lvl := Lvl) 𝒱₀ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).2.1 S1x256x768.size (by sl_kernel_rfl) y

/-- What the run leaves in output 14's staging buffer: its pieces read back over junk. -/
def out0_A_14 (c : Dev nD) (i : grid0.Coords) (arg3 : Memref sig .tc .vmem S1x256x768 .f32) (harg3 : arg3.IsWhole) (arg4 : Memref sig .tc .vmem S768x768 .f32) (harg4 : arg4.IsWhole) (arg5 : Memref sig .tc .vmem S768x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S768x12 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S1x256x768 .f32) (harg16 : arg16.IsWhole) (arg17 : Memref sig .tc .vmem S1x256x768 .f32) (harg17 : arg17.IsWhole) (arg18 : Memref sig .tc .vmem S1x256x768 .f32) (harg18 : arg18.IsWhole)
    (x0 : Vec F S1x256x768 .f32) (x1 : Vec F S768x768 .f32) (x2 : Vec F S768x768 .f32) (x3 : Vec F S768x768 .f32) (x4 : Vec F S1x768 .f32) (x5 : Vec F S1x768 .f32) (x6 : Vec F S768x12 .f32) (x7 : Vec F S1x768 .f32) (x8 : Vec F S1x768 .f32) (x9 : Vec F S1x768 .f32) (x10 : Vec F S1x768 .f32) (x11 : Vec F S1x768 .f32) (x12 : Vec F S1x768 .f32) : Vec F S1x256x768 .f32 :=
  VO0_14.read (Elt F) (VO0_14.writes (Elt F) VO0_14.junk (kernelRun0_A (Ix := Ix) (U := U) (Lvl := Lvl) 𝒱₀ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).2.1)

/-- The run's pieces for output 15 tile its block (1 store of `S1x256x768`, checked by the kernel's evaluation: Lib/Ring.lean `Piece.tiledL`, linear in the pieces, through a loop's `@[irreducible]` trip theorem too), so they cover it. -/
theorem cover0_A_15 (c : Dev nD) (i : grid0.Coords) (arg3 : Memref sig .tc .vmem S1x256x768 .f32) (harg3 : arg3.IsWhole) (arg4 : Memref sig .tc .vmem S768x768 .f32) (harg4 : arg4.IsWhole) (arg5 : Memref sig .tc .vmem S768x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S768x12 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S1x256x768 .f32) (harg16 : arg16.IsWhole) (arg17 : Memref sig .tc .vmem S1x256x768 .f32) (harg17 : arg17.IsWhole) (arg18 : Memref sig .tc .vmem S1x256x768 .f32) (harg18 : arg18.IsWhole)
    (x0 : Vec F S1x256x768 .f32) (x1 : Vec F S768x768 .f32) (x2 : Vec F S768x768 .f32) (x3 : Vec F S768x768 .f32) (x4 : Vec F S1x768 .f32) (x5 : Vec F S1x768 .f32) (x6 : Vec F S768x12 .f32) (x7 : Vec F S1x768 .f32) (x8 : Vec F S1x768 .f32) (x9 : Vec F S1x768 .f32) (x10 : Vec F S1x768 .f32) (x11 : Vec F S1x768 .f32) (x12 : Vec F S1x768 .f32) (y : S1x256x768.Idx) :
    ∃ pc ∈ (kernelRun0_A (Ix := Ix) (U := U) (Lvl := Lvl) 𝒱₀ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).2.2.1, y ∈ pc.1.set :=
  View.cover_of_tiledL (kernelRun0_A (Ix := Ix) (U := U) (Lvl := Lvl) 𝒱₀ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).2.2.1 S1x256x768.size (by sl_kernel_rfl) y

/-- What the run leaves in output 15's staging buffer: its pieces read back over junk. -/
def out0_A_15 (c : Dev nD) (i : grid0.Coords) (arg3 : Memref sig .tc .vmem S1x256x768 .f32) (harg3 : arg3.IsWhole) (arg4 : Memref sig .tc .vmem S768x768 .f32) (harg4 : arg4.IsWhole) (arg5 : Memref sig .tc .vmem S768x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S768x12 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S1x256x768 .f32) (harg16 : arg16.IsWhole) (arg17 : Memref sig .tc .vmem S1x256x768 .f32) (harg17 : arg17.IsWhole) (arg18 : Memref sig .tc .vmem S1x256x768 .f32) (harg18 : arg18.IsWhole)
    (x0 : Vec F S1x256x768 .f32) (x1 : Vec F S768x768 .f32) (x2 : Vec F S768x768 .f32) (x3 : Vec F S768x768 .f32) (x4 : Vec F S1x768 .f32) (x5 : Vec F S1x768 .f32) (x6 : Vec F S768x12 .f32) (x7 : Vec F S1x768 .f32) (x8 : Vec F S1x768 .f32) (x9 : Vec F S1x768 .f32) (x10 : Vec F S1x768 .f32) (x11 : Vec F S1x768 .f32) (x12 : Vec F S1x768 .f32) : Vec F S1x256x768 .f32 :=
  VO0_15.read (Elt F) (VO0_15.writes (Elt F) VO0_15.junk (kernelRun0_A (Ix := Ix) (U := U) (Lvl := Lvl) 𝒱₀ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).2.2.1)

/-! ## What the outputs hold after each point -/

/-- What the outputs' staging buffers hold after the body at point `t` (as a tuple, in window order): the run's contents at
    the point's memrefs and input blocks. -/
def outsAt0 (c : Dev nD) (t : Fin cfg0.N) : Vec F S1x256x768 .f32 × Vec F S1x256x768 .f32 × Vec F S1x256x768 .f32 :=
  (out0_A_13 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t), out0_A_14 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t), out0_A_15 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); the core owing `D c` throughout; full shares. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => (outsAt0 (Ix := Ix) (U := U) (Lvl := Lvl) 𝒱₀ V c t).1
    | ⟨14, _⟩ => (outsAt0 (Ix := Ix) (U := U) (Lvl := Lvl) 𝒱₀ V c t).2.1
    | ⟨15, _⟩ => (outsAt0 (Ix := Ix) (U := U) (Lvl := Lvl) 𝒱₀ V c t).2.2
    | ⟨_ + 16, h⟩ => absurd h (Nat.not_lt.2 (Nat.le_add_left _ _))
  Φ _ := ΦK (F := F) (Ix := Ix) (U := U) (Lvl := Lvl) c
  q _ := fullShare
  owed _ := D c

variable (ι : Ix)

local notation "𝕕" => dat (Ix := Ix) (U := U) (Lvl := Lvl) 𝒱₀ V D

/-- The proof data's arrays are the region-entry contents `V`: the proof data's definition projected (`dsimp`). -/
theorem A_eq (c : Dev nD) (w : Fin cfg0.W) : (𝕕 c).A w = V c (Pipeline.arrRef spec0 w) := by
  dsimp only [dat]

/-- What the body leaves, window by window (the proof data's `match` reduced by `dsimp`). -/
theorem after0_0 (c : Dev nD) (t : Fin cfg0.N) : (𝕕 c).after 0 t = iblk V c 0 t := by dsimp only [dat]
/-- What the body leaves in window 1. -/
theorem after0_1 (c : Dev nD) (t : Fin cfg0.N) : (𝕕 c).after 1 t = iblk V c 1 t := by dsimp only [dat]
/-- What the body leaves in window 2. -/
theorem after0_2 (c : Dev nD) (t : Fin cfg0.N) : (𝕕 c).after 2 t = iblk V c 2 t := by dsimp only [dat]
/-- What the body leaves in window 3. -/
theorem after0_3 (c : Dev nD) (t : Fin cfg0.N) : (𝕕 c).after 3 t = iblk V c 3 t := by dsimp only [dat]
/-- What the body leaves in window 4. -/
theorem after0_4 (c : Dev nD) (t : Fin cfg0.N) : (𝕕 c).after 4 t = iblk V c 4 t := by dsimp only [dat]
/-- What the body leaves in window 5. -/
theorem after0_5 (c : Dev nD) (t : Fin cfg0.N) : (𝕕 c).after 5 t = iblk V c 5 t := by dsimp only [dat]
/-- What the body leaves in window 6. -/
theorem after0_6 (c : Dev nD) (t : Fin cfg0.N) : (𝕕 c).after 6 t = iblk V c 6 t := by dsimp only [dat]
/-- What the body leaves in window 7. -/
theorem after0_7 (c : Dev nD) (t : Fin cfg0.N) : (𝕕 c).after 7 t = iblk V c 7 t := by dsimp only [dat]
/-- What the body leaves in window 8. -/
theorem after0_8 (c : Dev nD) (t : Fin cfg0.N) : (𝕕 c).after 8 t = iblk V c 8 t := by dsimp only [dat]
/-- What the body leaves in window 9. -/
theorem after0_9 (c : Dev nD) (t : Fin cfg0.N) : (𝕕 c).after 9 t = iblk V c 9 t := by dsimp only [dat]
/-- What the body leaves in window 10. -/
theorem after0_10 (c : Dev nD) (t : Fin cfg0.N) : (𝕕 c).after 10 t = iblk V c 10 t := by dsimp only [dat]
/-- What the body leaves in window 11. -/
theorem after0_11 (c : Dev nD) (t : Fin cfg0.N) : (𝕕 c).after 11 t = iblk V c 11 t := by dsimp only [dat]
/-- What the body leaves in window 12. -/
theorem after0_12 (c : Dev nD) (t : Fin cfg0.N) : (𝕕 c).after 12 t = iblk V c 12 t := by dsimp only [dat]
/-- What the body leaves in window 13. -/
theorem after0_13 (c : Dev nD) (t : Fin cfg0.N) : (𝕕 c).after 13 t = (outsAt0 (Ix := Ix) (U := U) (Lvl := Lvl) 𝒱₀ V c t).1 := by dsimp only [dat]
/-- What the body leaves in window 14. -/
theorem after0_14 (c : Dev nD) (t : Fin cfg0.N) : (𝕕 c).after 14 t = (outsAt0 (Ix := Ix) (U := U) (Lvl := Lvl) 𝒱₀ V c t).2.1 := by dsimp only [dat]
/-- What the body leaves in window 15. -/
theorem after0_15 (c : Dev nD) (t : Fin cfg0.N) : (𝕕 c).after 15 t = (outsAt0 (Ix := Ix) (U := U) (Lvl := Lvl) 𝒱₀ V c t).2.2 := by dsimp only [dat]

/-- Each input's current staging buffer holds its block at every point, fetched there or not (`beforeK_W_of`). -/
theorem before0_0 (c : Dev nD) (t : Fin cfg0.N) (d) : (𝕕 c).before 0 t d = iblk V c 0 t :=
  before0_0_of V (𝕕 c) (A_eq 𝒱₀ V D c 0) (after0_0 𝒱₀ V D c) t d
/-- What the body finds in window 1. -/
theorem before0_1 (c : Dev nD) (t : Fin cfg0.N) (d) : (𝕕 c).before 1 t d = iblk V c 1 t :=
  before0_1_of V (𝕕 c) (A_eq 𝒱₀ V D c 1) (after0_1 𝒱₀ V D c) t d
/-- What the body finds in window 2. -/
theorem before0_2 (c : Dev nD) (t : Fin cfg0.N) (d) : (𝕕 c).before 2 t d = iblk V c 2 t :=
  before0_2_of V (𝕕 c) (A_eq 𝒱₀ V D c 2) (after0_2 𝒱₀ V D c) t d
/-- What the body finds in window 3. -/
theorem before0_3 (c : Dev nD) (t : Fin cfg0.N) (d) : (𝕕 c).before 3 t d = iblk V c 3 t :=
  before0_3_of V (𝕕 c) (A_eq 𝒱₀ V D c 3) (after0_3 𝒱₀ V D c) t d
/-- What the body finds in window 4. -/
theorem before0_4 (c : Dev nD) (t : Fin cfg0.N) (d) : (𝕕 c).before 4 t d = iblk V c 4 t :=
  before0_4_of V (𝕕 c) (A_eq 𝒱₀ V D c 4) (after0_4 𝒱₀ V D c) t d
/-- What the body finds in window 5. -/
theorem before0_5 (c : Dev nD) (t : Fin cfg0.N) (d) : (𝕕 c).before 5 t d = iblk V c 5 t :=
  before0_5_of V (𝕕 c) (A_eq 𝒱₀ V D c 5) (after0_5 𝒱₀ V D c) t d
/-- What the body finds in window 6. -/
theorem before0_6 (c : Dev nD) (t : Fin cfg0.N) (d) : (𝕕 c).before 6 t d = iblk V c 6 t :=
  before0_6_of V (𝕕 c) (A_eq 𝒱₀ V D c 6) (after0_6 𝒱₀ V D c) t d
/-- What the body finds in window 7. -/
theorem before0_7 (c : Dev nD) (t : Fin cfg0.N) (d) : (𝕕 c).before 7 t d = iblk V c 7 t :=
  before0_7_of V (𝕕 c) (A_eq 𝒱₀ V D c 7) (after0_7 𝒱₀ V D c) t d
/-- What the body finds in window 8. -/
theorem before0_8 (c : Dev nD) (t : Fin cfg0.N) (d) : (𝕕 c).before 8 t d = iblk V c 8 t :=
  before0_8_of V (𝕕 c) (A_eq 𝒱₀ V D c 8) (after0_8 𝒱₀ V D c) t d
/-- What the body finds in window 9. -/
theorem before0_9 (c : Dev nD) (t : Fin cfg0.N) (d) : (𝕕 c).before 9 t d = iblk V c 9 t :=
  before0_9_of V (𝕕 c) (A_eq 𝒱₀ V D c 9) (after0_9 𝒱₀ V D c) t d
/-- What the body finds in window 10. -/
theorem before0_10 (c : Dev nD) (t : Fin cfg0.N) (d) : (𝕕 c).before 10 t d = iblk V c 10 t :=
  before0_10_of V (𝕕 c) (A_eq 𝒱₀ V D c 10) (after0_10 𝒱₀ V D c) t d
/-- What the body finds in window 11. -/
theorem before0_11 (c : Dev nD) (t : Fin cfg0.N) (d) : (𝕕 c).before 11 t d = iblk V c 11 t :=
  before0_11_of V (𝕕 c) (A_eq 𝒱₀ V D c 11) (after0_11 𝒱₀ V D c) t d
/-- What the body finds in window 12. -/
theorem before0_12 (c : Dev nD) (t : Fin cfg0.N) (d) : (𝕕 c).before 12 t d = iblk V c 12 t :=
  before0_12_of V (𝕕 c) (A_eq 𝒱₀ V D c 12) (after0_12 𝒱₀ V D c) t d

/-! ## The body obligation, at a generic point -/

/-- What the body is called with at point `t` (Lib/Pipeline.lean `BodyObligation`'s precondition, the windows one by one), -/
def bodyPre (c : Dev nD) (t : Fin cfg0.N) : sProp 𝕄 :=
  iprop((𝕕 c).Φ t.castSucc ∗ (𝕕 c).owesAt ι t.castSucc
    ∗ (∃ d, owns (c : Thread nD τ) (ms0_0 t) fullShare ((𝕕 c).before 0 t d))
    ∗ (∃ d, owns (c : Thread nD τ) (ms0_1 t) fullShare ((𝕕 c).before 1 t d))
    ∗ (∃ d, owns (c : Thread nD τ) (ms0_2 t) fullShare ((𝕕 c).before 2 t d))
    ∗ (∃ d, owns (c : Thread nD τ) (ms0_3 t) fullShare ((𝕕 c).before 3 t d))
    ∗ (∃ d, owns (c : Thread nD τ) (ms0_4 t) fullShare ((𝕕 c).before 4 t d))
    ∗ (∃ d, owns (c : Thread nD τ) (ms0_5 t) fullShare ((𝕕 c).before 5 t d))
    ∗ (∃ d, owns (c : Thread nD τ) (ms0_6 t) fullShare ((𝕕 c).before 6 t d))
    ∗ (∃ d, owns (c : Thread nD τ) (ms0_7 t) fullShare ((𝕕 c).before 7 t d))
    ∗ (∃ d, owns (c : Thread nD τ) (ms0_8 t) fullShare ((𝕕 c).before 8 t d))
    ∗ (∃ d, owns (c : Thread nD τ) (ms0_9 t) fullShare ((𝕕 c).before 9 t d))
    ∗ (∃ d, owns (c : Thread nD τ) (ms0_10 t) fullShare ((𝕕 c).before 10 t d))
    ∗ (∃ d, owns (c : Thread nD τ) (ms0_11 t) fullShare ((𝕕 c).before 11 t d))
    ∗ (∃ d, owns (c : Thread nD τ) (ms0_12 t) fullShare ((𝕕 c).before 12 t d))
    ∗ (∃ d, owns (c : Thread nD τ) (ms0_13 t) fullShare ((𝕕 c).before 13 t d))
    ∗ (∃ d, owns (c : Thread nD τ) (ms0_14 t) fullShare ((𝕕 c).before 14 t d))
    ∗ (∃ d, owns (c : Thread nD τ) (ms0_15 t) fullShare ((𝕕 c).before 15 t d)))

/-- and what it returns. -/
def bodyPost (c : Dev nD) (t : Fin cfg0.N) : sProp 𝕄 :=
  iprop((𝕕 c).Φ t.succ ∗ (𝕕 c).owesAt ι t.succ
    ∗ owns (c : Thread nD τ) (ms0_0 t) fullShare ((𝕕 c).after 0 t)
    ∗ owns (c : Thread nD τ) (ms0_1 t) fullShare ((𝕕 c).after 1 t)
    ∗ owns (c : Thread nD τ) (ms0_2 t) fullShare ((𝕕 c).after 2 t)
    ∗ owns (c : Thread nD τ) (ms0_3 t) fullShare ((𝕕 c).after 3 t)
    ∗ owns (c : Thread nD τ) (ms0_4 t) fullShare ((𝕕 c).after 4 t)
    ∗ owns (c : Thread nD τ) (ms0_5 t) fullShare ((𝕕 c).after 5 t)
    ∗ owns (c : Thread nD τ) (ms0_6 t) fullShare ((𝕕 c).after 6 t)
    ∗ owns (c : Thread nD τ) (ms0_7 t) fullShare ((𝕕 c).after 7 t)
    ∗ owns (c : Thread nD τ) (ms0_8 t) fullShare ((𝕕 c).after 8 t)
    ∗ owns (c : Thread nD τ) (ms0_9 t) fullShare ((𝕕 c).after 9 t)
    ∗ owns (c : Thread nD τ) (ms0_10 t) fullShare ((𝕕 c).after 10 t)
    ∗ owns (c : Thread nD τ) (ms0_11 t) fullShare ((𝕕 c).after 11 t)
    ∗ owns (c : Thread nD τ) (ms0_12 t) fullShare ((𝕕 c).after 12 t)
    ∗ owns (c : Thread nD τ) (ms0_13 t) fullShare ((𝕕 c).after 13 t)
    ∗ owns (c : Thread nD τ) (ms0_14 t) fullShare ((𝕕 c).after 14 t)
    ∗ owns (c : Thread nD τ) (ms0_15 t) fullShare ((𝕕 c).after 15 t))

set_option maxHeartbeats 1600000 in
/-- The body at any point: the inputs' memrefs hold their blocks (`before0_W`); so the
    run applies; the invariant passes through unread; the core owes `D c` throughout. -/
theorem sound_body (c : Dev nD) (t : Fin cfg0.N) :
    bodyPre (U := U) (Lvl := Lvl) 𝒱₀ V D ι c t ⊢ wp frame (wpE (defs₀ (F := F)) 𝒱₀ c none) Set.univ (bodyAt0 t) (fun _ => bodyPost (U := U) (Lvl := Lvl) 𝒱₀ V D ι c t) := by
  unfold bodyPre bodyPost bodyAt0
  simp only [before0_0, before0_1, before0_2, before0_3, before0_4, before0_5, before0_6, before0_7, before0_8, before0_9, before0_10, before0_11, before0_12]
  rw [show (𝕕 c).Φ t.succ = (𝕕 c).Φ t.castSucc from rfl,
    show (𝕕 c).owesAt ι t.succ = (𝕕 c).owesAt ι t.castSucc from rfl,
    after0_0, after0_1, after0_2, after0_3, after0_4, after0_5, after0_6, after0_7, after0_8, after0_9, after0_10, after0_11, after0_12, after0_13, after0_14, after0_15]
  unfold outsAt0
  unfold out0_A_13 out0_A_14 out0_A_15; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun0_A (Ix := Ix) (U := U) (Lvl := Lvl) 𝒱₀ c (grid0.coords t) _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, ⟨%e13, H13⟩, ⟨%e14, H14⟩, ⟨%e15, H15⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover0_A_13 (Ix := Ix) (U := U) (Lvl := Lvl) 𝒱₀ c _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 (Ix := Ix) (U := U) (Lvl := Lvl) 𝒱₀ c _ _ _ _ _ _ _ _ _ _ _ _ _ _ _ _ _ _ _ _ _ _ _ _ _ _ _ _ _ _ _ _ _ _ _ _ _ _ _ _ _ _ _ _ _ _)
  unfold owns; iexists _; isplitr
  swap; · iexact H15
  ipureintro; exact View.read_writes_of_cover _ _ _ _ _ (cover0_A_15 (Ix := Ix) (U := U) (Lvl := Lvl) 𝒱₀ c _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (𝕕 c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

end Cert.KernelIdeal.Own.K0

end
-- ==== Proof.Ideal.K2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own.K2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec2 c` at any index and level type. -/
def ΦK (c : Dev nD) : sProp 𝕄 :=
  iprop(Pipeline.scopedRest (Ix := Ix) (Name := ℕ) (U := U) (Lvl := Lvl) (Val := Elt F) spec2 c ∗ ∃ r, prngReg c r)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Ix ℕ U Lvl cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Ix ℕ U Lvl cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Ix ℕ U Lvl cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Ix ℕ U Lvl cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Ix ℕ U Lvl cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Ix ℕ U Lvl cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Ix ℕ U Lvl cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 7, through which its contents are stated (`View.read_writes_of_cover`: the
    choice does not matter). -/
abbrev VO2_7 : View sig .tc .vmem S1x256x768 .f32 := (Memref.whole cc2_stg7_0 : Memref sig .tc .vmem S1x256x768 .f32).view
/-- Each window's current staging memref at point `t`, spelled as the pipeline passes it (`bodyAt2`), and its wholeness. -/
abbrev ms2_0 (t : Fin cfg2.N) : Memref sig .tc .vmem S1x256x768 .f32 := win2_0.stage (cfg2.slots t 0)
/-- Window 0's staging buffer is a whole one. -/
abbrev hs2_0 (t : Fin cfg2.N) : (ms2_0 t).IsWhole := hstage2_0 ((cfg2.slots t 0).cast nbuf2_0)
/-- Window 1's staging buffer at the point. -/
abbrev ms2_1 (t : Fin cfg2.N) : Memref sig .tc .vmem S1x256x768 .f32 := win2_1.stage (cfg2.slots t 1)
/-- Window 1's staging buffer is a whole one. -/
abbrev hs2_1 (t : Fin cfg2.N) : (ms2_1 t).IsWhole := hstage2_1 ((cfg2.slots t 1).cast nbuf2_1)
/-- Window 2's staging buffer at the point. -/
abbrev ms2_2 (t : Fin cfg2.N) : Memref sig .tc .vmem S768x768 .f32 := win2_2.stage (cfg2.slots t 2)
/-- Window 2's staging buffer is a whole one. -/
abbrev hs2_2 (t : Fin cfg2.N) : (ms2_2 t).IsWhole := hstage2_2 ((cfg2.slots t 2).cast nbuf2_2)
/-- Window 3's staging buffer at the point. -/
abbrev ms2_3 (t : Fin cfg2.N) : Memref sig .tc .vmem S768x768 .f32 := win2_3.stage (cfg2.slots t 3)
/-- Window 3's staging buffer is a whole one. -/
abbrev hs2_3 (t : Fin cfg2.N) : (ms2_3 t).IsWhole := hstage2_3 ((cfg2.slots t 3).cast nbuf2_3)
/-- Window 4's staging buffer at the point. -/
abbrev ms2_4 (t : Fin cfg2.N) : Memref sig .tc .vmem S1x768 .f32 := win2_4.stage (cfg2.slots t 4)
/-- Window 4's staging buffer is a whole one. -/
abbrev hs2_4 (t : Fin cfg2.N) : (ms2_4 t).IsWhole := hstage2_4 ((cfg2.slots t 4).cast nbuf2_4)
/-- Window 5's staging buffer at the point. -/
abbrev ms2_5 (t : Fin cfg2.N) : Memref sig .tc .vmem S1x768 .f32 := win2_5.stage (cfg2.slots t 5)
/-- Window 5's staging buffer is a whole one. -/
abbrev hs2_5 (t : Fin cfg2.N) : (ms2_5 t).IsWhole := hstage2_5 ((cfg2.slots t 5).cast nbuf2_5)
/-- Window 6's staging buffer at the point. -/
abbrev ms2_6 (t : Fin cfg2.N) : Memref sig .tc .vmem S1x768 .f32 := win2_6.stage (cfg2.slots t 6)
/-- Window 6's staging buffer is a whole one. -/
abbrev hs2_6 (t : Fin cfg2.N) : (ms2_6 t).IsWhole := hstage2_6 ((cfg2.slots t 6).cast nbuf2_6)
/-- Window 7's staging buffer at the point. -/
abbrev ms2_7 (t : Fin cfg2.N) : Memref sig .tc .vmem S1x256x768 .f32 := win2_7.stage (cfg2.slots t 7)
/-- Window 7's staging buffer is a whole one. -/
abbrev hs2_7 (t : Fin cfg2.N) : (ms2_7 t).IsWhole := hstage2_7 ((cfg2.slots t 7).cast nbuf2_7)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg3 : Memref sig .tc .vmem S1x256x768 .f32) (harg3 : arg3.IsWhole) (arg4 : Memref sig .tc .vmem S1x256x768 .f32) (harg4 : arg4.IsWhole) (arg5 : Memref sig .tc .vmem S768x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x256x768 .f32) (harg10 : arg10.IsWhole)
    (x0 : Vec F S1x256x768 .f32) (x1 : Vec F S1x256x768 .f32) (x2 : Vec F S768x768 .f32) (x3 : Vec F S768x768 .f32) (x4 : Vec F S1x768 .f32) (x5 : Vec F S1x768 .f32) (x6 : Vec F S1x768 .f32) :
    { L7 : List (View.Piece (Elt F) S1x256x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7)) -∗ K ⟨⟩))
          ⊢ wp frame (wpE (defs₀ (F := F)) 𝒱₀ c none) E (cc2_titans_out i arg3 harg3 arg4 harg4 arg5 harg5 arg6 harg6 arg7 harg7 arg8 harg8 arg9 harg9 arg10 harg10) K } := by
  refine ⟨?_, fun E K => ?run⟩
  case run =>
    simp only [cc2_titans_out_eq_skeleton]; unfold cc2_titans_out_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact H7

/-- The run's pieces for output 7 tile its block (1 store of `S1x256x768`, checked by the kernel's evaluation: Lib/Ring.lean `Piece.tiledL`, linear in the pieces, through a loop's `@[irreducible]` trip theorem too), so they cover it. -/
theorem cover2_A_7 (c : Dev nD) (i : grid2.Coords) (arg3 : Memref sig .tc .vmem S1x256x768 .f32) (harg3 : arg3.IsWhole) (arg4 : Memref sig .tc .vmem S1x256x768 .f32) (harg4 : arg4.IsWhole) (arg5 : Memref sig .tc .vmem S768x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x256x768 .f32) (harg10 : arg10.IsWhole)
    (x0 : Vec F S1x256x768 .f32) (x1 : Vec F S1x256x768 .f32) (x2 : Vec F S768x768 .f32) (x3 : Vec F S768x768 .f32) (x4 : Vec F S1x768 .f32) (x5 : Vec F S1x768 .f32) (x6 : Vec F S1x768 .f32) (y : S1x256x768.Idx) :
    ∃ pc ∈ (kernelRun2_A (Ix := Ix) (U := U) (Lvl := Lvl) 𝒱₀ c i arg3 harg3 arg4 harg4 arg5 harg5 arg6 harg6 arg7 harg7 arg8 harg8 arg9 harg9 arg10 harg10 x0 x1 x2 x3 x4 x5 x6).1, y ∈ pc.1.set :=
  View.cover_of_tiledL (kernelRun2_A (Ix := Ix) (U := U) (Lvl := Lvl) 𝒱₀ c i arg3 harg3 arg4 harg4 arg5 harg5 arg6 harg6 arg7 harg7 arg8 harg8 arg9 harg9 arg10 harg10 x0 x1 x2 x3 x4 x5 x6).1 S1x256x768.size (by sl_kernel_rfl) y

/-- What the run leaves in output 7's staging buffer: its pieces read back over junk. -/
def out2_A_7 (c : Dev nD) (i : grid2.Coords) (arg3 : Memref sig .tc .vmem S1x256x768 .f32) (harg3 : arg3.IsWhole) (arg4 : Memref sig .tc .vmem S1x256x768 .f32) (harg4 : arg4.IsWhole) (arg5 : Memref sig .tc .vmem S768x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x256x768 .f32) (harg10 : arg10.IsWhole)
    (x0 : Vec F S1x256x768 .f32) (x1 : Vec F S1x256x768 .f32) (x2 : Vec F S768x768 .f32) (x3 : Vec F S768x768 .f32) (x4 : Vec F S1x768 .f32) (x5 : Vec F S1x768 .f32) (x6 : Vec F S1x768 .f32) : Vec F S1x256x768 .f32 :=
  VO2_7.read (Elt F) (VO2_7.writes (Elt F) VO2_7.junk (kernelRun2_A (Ix := Ix) (U := U) (Lvl := Lvl) 𝒱₀ c i arg3 harg3 arg4 harg4 arg5 harg5 arg6 harg6 arg7 harg7 arg8 harg8 arg9 harg9 arg10 harg10 x0 x1 x2 x3 x4 x5 x6).1)

/-! ## What the outputs hold after each point -/

/-- What the outputs' staging buffers hold after the body at point `t`: the run's contents at
    the point's memrefs and input blocks. -/
def outsAt2 (c : Dev nD) (t : Fin cfg2.N) : Vec F S1x256x768 .f32 :=
  out2_A_7 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk V c 0 t) (iblk V c 1 t) (iblk V c 2 t) (iblk V c 3 t) (iblk V c 4 t) (iblk V c 5 t) (iblk V c 6 t)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); the core owing `D c` throughout; full shares. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt2 (Ix := Ix) (U := U) (Lvl := Lvl) 𝒱₀ V c t)
  Φ _ := ΦK (F := F) (Ix := Ix) (U := U) (Lvl := Lvl) c
  q _ := fullShare
  owed _ := D c

variable (ι : Ix)

local notation "𝕕" => dat (Ix := Ix) (U := U) (Lvl := Lvl) 𝒱₀ V D

/-- The proof data's arrays are the region-entry contents `V`: the proof data's definition projected (`dsimp`). -/
theorem A_eq (c : Dev nD) (w : Fin cfg2.W) : (𝕕 c).A w = V c (Pipeline.arrRef spec2 w) := by
  dsimp only [dat]

/-- What the body leaves, window by window (the proof data's `match` reduced by `dsimp`). -/
theorem after2_0 (c : Dev nD) (t : Fin cfg2.N) : (𝕕 c).after 0 t = iblk V c 0 t := by dsimp only [dat]
/-- What the body leaves in window 1. -/
theorem after2_1 (c : Dev nD) (t : Fin cfg2.N) : (𝕕 c).after 1 t = iblk V c 1 t := by dsimp only [dat]
/-- What the body leaves in window 2. -/
theorem after2_2 (c : Dev nD) (t : Fin cfg2.N) : (𝕕 c).after 2 t = iblk V c 2 t := by dsimp only [dat]
/-- What the body leaves in window 3. -/
theorem after2_3 (c : Dev nD) (t : Fin cfg2.N) : (𝕕 c).after 3 t = iblk V c 3 t := by dsimp only [dat]
/-- What the body leaves in window 4. -/
theorem after2_4 (c : Dev nD) (t : Fin cfg2.N) : (𝕕 c).after 4 t = iblk V c 4 t := by dsimp only [dat]
/-- What the body leaves in window 5. -/
theorem after2_5 (c : Dev nD) (t : Fin cfg2.N) : (𝕕 c).after 5 t = iblk V c 5 t := by dsimp only [dat]
/-- What the body leaves in window 6. -/
theorem after2_6 (c : Dev nD) (t : Fin cfg2.N) : (𝕕 c).after 6 t = iblk V c 6 t := by dsimp only [dat]
/-- What the body leaves in window 7. -/
theorem after2_7 (c : Dev nD) (t : Fin cfg2.N) : (𝕕 c).after 7 t = (outsAt2 (Ix := Ix) (U := U) (Lvl := Lvl) 𝒱₀ V c t) := by dsimp only [dat]

/-- Each input's current staging buffer holds its block at every point, fetched there or not (`beforeK_W_of`). -/
theorem before2_0 (c : Dev nD) (t : Fin cfg2.N) (d) : (𝕕 c).before 0 t d = iblk V c 0 t :=
  before2_0_of V (𝕕 c) (A_eq 𝒱₀ V D c 0) (after2_0 𝒱₀ V D c) t d
/-- What the body finds in window 1. -/
theorem before2_1 (c : Dev nD) (t : Fin cfg2.N) (d) : (𝕕 c).before 1 t d = iblk V c 1 t :=
  before2_1_of V (𝕕 c) (A_eq 𝒱₀ V D c 1) (after2_1 𝒱₀ V D c) t d
/-- What the body finds in window 2. -/
theorem before2_2 (c : Dev nD) (t : Fin cfg2.N) (d) : (𝕕 c).before 2 t d = iblk V c 2 t :=
  before2_2_of V (𝕕 c) (A_eq 𝒱₀ V D c 2) (after2_2 𝒱₀ V D c) t d
/-- What the body finds in window 3. -/
theorem before2_3 (c : Dev nD) (t : Fin cfg2.N) (d) : (𝕕 c).before 3 t d = iblk V c 3 t :=
  before2_3_of V (𝕕 c) (A_eq 𝒱₀ V D c 3) (after2_3 𝒱₀ V D c) t d
/-- What the body finds in window 4. -/
theorem before2_4 (c : Dev nD) (t : Fin cfg2.N) (d) : (𝕕 c).before 4 t d = iblk V c 4 t :=
  before2_4_of V (𝕕 c) (A_eq 𝒱₀ V D c 4) (after2_4 𝒱₀ V D c) t d
/-- What the body finds in window 5. -/
theorem before2_5 (c : Dev nD) (t : Fin cfg2.N) (d) : (𝕕 c).before 5 t d = iblk V c 5 t :=
  before2_5_of V (𝕕 c) (A_eq 𝒱₀ V D c 5) (after2_5 𝒱₀ V D c) t d
/-- What the body finds in window 6. -/
theorem before2_6 (c : Dev nD) (t : Fin cfg2.N) (d) : (𝕕 c).before 6 t d = iblk V c 6 t :=
  before2_6_of V (𝕕 c) (A_eq 𝒱₀ V D c 6) (after2_6 𝒱₀ V D c) t d

/-! ## The body obligation, at a generic point -/

/-- What the body is called with at point `t` (Lib/Pipeline.lean `BodyObligation`'s precondition, the windows one by one), -/
def bodyPre (c : Dev nD) (t : Fin cfg2.N) : sProp 𝕄 :=
  iprop((𝕕 c).Φ t.castSucc ∗ (𝕕 c).owesAt ι t.castSucc
    ∗ (∃ d, owns (c : Thread nD τ) (ms2_0 t) fullShare ((𝕕 c).before 0 t d))
    ∗ (∃ d, owns (c : Thread nD τ) (ms2_1 t) fullShare ((𝕕 c).before 1 t d))
    ∗ (∃ d, owns (c : Thread nD τ) (ms2_2 t) fullShare ((𝕕 c).before 2 t d))
    ∗ (∃ d, owns (c : Thread nD τ) (ms2_3 t) fullShare ((𝕕 c).before 3 t d))
    ∗ (∃ d, owns (c : Thread nD τ) (ms2_4 t) fullShare ((𝕕 c).before 4 t d))
    ∗ (∃ d, owns (c : Thread nD τ) (ms2_5 t) fullShare ((𝕕 c).before 5 t d))
    ∗ (∃ d, owns (c : Thread nD τ) (ms2_6 t) fullShare ((𝕕 c).before 6 t d))
    ∗ (∃ d, owns (c : Thread nD τ) (ms2_7 t) fullShare ((𝕕 c).before 7 t d)))

/-- and what it returns. -/
def bodyPost (c : Dev nD) (t : Fin cfg2.N) : sProp 𝕄 :=
  iprop((𝕕 c).Φ t.succ ∗ (𝕕 c).owesAt ι t.succ
    ∗ owns (c : Thread nD τ) (ms2_0 t) fullShare ((𝕕 c).after 0 t)
    ∗ owns (c : Thread nD τ) (ms2_1 t) fullShare ((𝕕 c).after 1 t)
    ∗ owns (c : Thread nD τ) (ms2_2 t) fullShare ((𝕕 c).after 2 t)
    ∗ owns (c : Thread nD τ) (ms2_3 t) fullShare ((𝕕 c).after 3 t)
    ∗ owns (c : Thread nD τ) (ms2_4 t) fullShare ((𝕕 c).after 4 t)
    ∗ owns (c : Thread nD τ) (ms2_5 t) fullShare ((𝕕 c).after 5 t)
    ∗ owns (c : Thread nD τ) (ms2_6 t) fullShare ((𝕕 c).after 6 t)
    ∗ owns (c : Thread nD τ) (ms2_7 t) fullShare ((𝕕 c).after 7 t))

set_option maxHeartbeats 800000 in
/-- The body at any point: the inputs' memrefs hold their blocks (`before2_W`); so the
    run applies; the invariant passes through unread; the core owes `D c` throughout. -/
theorem sound_body (c : Dev nD) (t : Fin cfg2.N) :
    bodyPre (U := U) (Lvl := Lvl) 𝒱₀ V D ι c t ⊢ wp frame (wpE (defs₀ (F := F)) 𝒱₀ c none) Set.univ (bodyAt2 t) (fun _ => bodyPost (U := U) (Lvl := Lvl) 𝒱₀ V D ι c t) := by
  unfold bodyPre bodyPost bodyAt2
  simp only [before2_0, before2_1, before2_2, before2_3, before2_4, before2_5, before2_6]
  rw [show (𝕕 c).Φ t.succ = (𝕕 c).Φ t.castSucc from rfl,
    show (𝕕 c).owesAt ι t.succ = (𝕕 c).owesAt ι t.castSucc from rfl,
    after2_0, after2_1, after2_2, after2_3, after2_4, after2_5, after2_6, after2_7]
  unfold outsAt2
  unfold out2_A_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A (Ix := Ix) (U := U) (Lvl := Lvl) 𝒱₀ c (grid2.coords t) _ _ _ _ _ _ _ _ _ _ _ _ _ _ _ _ (iblk V c 0 t) (iblk V c 1 t) (iblk V c 2 t) (iblk V c 3 t) (iblk V c 4 t) (iblk V c 5 t) (iblk V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover2_A_7 (Ix := Ix) (U := U) (Lvl := Lvl) 𝒱₀ c _ _ _ _ _ _ _ _ _ _ _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (𝕕 c) (defs₀ (F := F)) 𝒱₀ ι Set.univ := fun t => by
  rw [bigSep_W2, bigSep_W2, defs₀_row]
  exact triple_restated (sound_body (U := U) (Lvl := Lvl) 𝒱₀ V D ι c t) rfl .rfl fun _ => .rfl

end Cert.KernelIdeal.Own.K2

end
-- ==== Proof.Ideal.Regs.lean ====
module

public import proofs.«01_k».proof.Proof.Gen.KernelIdeal.Regions
public import proofs.«01_k».proof.Proof.Ideal.K0
public import proofs.«01_k».proof.Proof.Ideal.K2
public import Idealize.ShloMosaic.Lib.Pipeline.RegionArrays

@[expose] public section

set_option maxHeartbeats 4000000
-- decided memberships and the launch kit's enumerations over 173 references and 16 windows recurse past the default depth
set_option maxRecDepth 3252

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The supplied regions' arrays and entry contents -/

/-- Each window's array of region 0 (custom call 0), as a device buffer, is in the region's array set. -/
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
/-- They are among the held buffers: unscoped. -/
theorem arr0_S : Pipeline.arrRefs (τ := τ) spec0 ⊆ Pipeline.ucRefs τ sig :=
  Pipeline.arrRefs_sub_ucRefs spec0 (by decide)
/-- Region 0's entry contents: the valuation before item 1, at the TensorCore's references. -/
abbrev Ve0 (m : (ℓ : Loc nD τ sig) → Buf (Elt F) ℓ) (c : Dev nD) (b : Ref sig .tc) : Buf (Elt F) ((c : Thread nD τ).loc b) := V1 m c (Proc.devRef .tc b)

/-- After the first call the array of `k` holds what the call leaves. -/
theorem V2_at_main_v36_0 (m : (ℓ : Loc nD τ sig) → Buf (Elt F) ℓ) (outs : Outs (F := F)) (c : Dev nD) : V2 m outs c (Proc.devRef .tc main_v36_0) = outs 2 main_v36_0 c := by
  simp only [V2, Function.update_of_ne (StableHlo.devRef_ne_of_ne (by decide : (main_v36_0 : Ref sig .tc) ≠ main_v36_1)), Function.update_of_ne (StableHlo.devRef_ne_of_ne (by decide : (main_v36_0 : Ref sig .tc) ≠ main_v36_2)), Function.update_self]

/-- After the first call the array of `v` holds what the call leaves. -/
theorem V2_at_main_v36_1 (m : (ℓ : Loc nD τ sig) → Buf (Elt F) ℓ) (outs : Outs (F := F)) (c : Dev nD) : V2 m outs c (Proc.devRef .tc main_v36_1) = outs 2 main_v36_1 c := by
  simp only [V2, Function.update_of_ne (StableHlo.devRef_ne_of_ne (by decide : (main_v36_1 : Ref sig .tc) ≠ main_v36_2)), Function.update_self]

/-- After the first call the array of `q` holds what the call leaves. -/
theorem V2_at_main_v36_2 (m : (ℓ : Loc nD τ sig) → Buf (Elt F) ℓ) (outs : Outs (F := F)) (c : Dev nD) : V2 m outs c (Proc.devRef .tc main_v36_2) = outs 2 main_v36_2 c := by
  simp only [V2, Function.update_self]

/-- Across region 0 every held buffer but its arrays keeps its contents: the frame has it change its output arrays alone. -/
theorem rest0_eq (m : (ℓ : Loc nD τ sig) → Buf (Elt F) ℓ) (outs : Outs (F := F)) (c : Dev nD) : ∀ b ∈ (Pipeline.ucRefs τ sig) \ Pipeline.arrRefs (τ := τ) spec0, V2 m outs c b = V1 m c b := fun b hb => by
  have hn : b ∉ Pipeline.arrRefs (τ := τ) spec0 := (Finset.mem_sdiff.mp hb).2
  have h_main_v36_0 : b ≠ Proc.devRef .tc main_v36_0 := by rintro rfl; exact hn (by first | exact arr0_mem 13 | decide)
  have h_main_v36_1 : b ≠ Proc.devRef .tc main_v36_1 := by rintro rfl; exact hn (by first | exact arr0_mem 14 | decide)
  have h_main_v36_2 : b ≠ Proc.devRef .tc main_v36_2 := by rintro rfl; exact hn (by first | exact arr0_mem 15 | decide)
  simp only [V2, Function.update_of_ne h_main_v36_0, Function.update_of_ne h_main_v36_1, Function.update_of_ne h_main_v36_2]

/-- Each window's array of region 2 (custom call 2), as a device buffer, is in the region's array set. -/
theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
/-- They are among the held buffers: unscoped. -/
theorem arr2_S : Pipeline.arrRefs (τ := τ) spec2 ⊆ Pipeline.ucRefs τ sig :=
  Pipeline.arrRefs_sub_ucRefs spec2 (by decide)
/-- Region 2's entry contents: the valuation before item 5, at the TensorCore's references. -/
abbrev Ve2 (m : (ℓ : Loc nD τ sig) → Buf (Elt F) ℓ) (outs : Outs (F := F)) (c : Dev nD) (b : Ref sig .tc) : Buf (Elt F) ((c : Thread nD τ).loc b) := V5 m outs c (Proc.devRef .tc b)

/-- After the last call its result holds what the call leaves. -/
theorem V6_at_main_v84 (m : (ℓ : Loc nD τ sig) → Buf (Elt F) ℓ) (outs : Outs (F := F)) (c : Dev nD) : V6 m outs c (Proc.devRef .tc main_v84) = outs 6 main_v84 c := by
  simp only [V6, Function.update_self]

/-- Across region 2 every held buffer but its arrays keeps its contents: the frame has it change its output arrays alone. -/
theorem rest2_eq (m : (ℓ : Loc nD τ sig) → Buf (Elt F) ℓ) (outs : Outs (F := F)) (c : Dev nD) : ∀ b ∈ (Pipeline.ucRefs τ sig) \ Pipeline.arrRefs (τ := τ) spec2, V6 m outs c b = V5 m outs c b := fun b hb => by
  have hn : b ∉ Pipeline.arrRefs (τ := τ) spec2 := (Finset.mem_sdiff.mp hb).2
  have h_main_v84 : b ≠ Proc.devRef .tc main_v84 := by rintro rfl; exact hn (by first | exact arr2_mem 7 | decide)
  simp only [V6, Function.update_of_ne h_main_v84]

section

variable {Ix : Type} [DecidableEq Ix] {U : Type} [URA U] {Lvl : Type} [Preorder Lvl]

/-- The proof-data family: a supplied pipeline's entry is the kernel's generated `dat`, entered from `VeK` while the core owes `DK`; any
    other is the caller's. -/
def pdatsD (m : (ℓ : Loc nD τ sig) → Buf (Elt F) ℓ) (outs : Outs (F := F)) (𝒱₀ : Variants) (pdats : (p : Fin 3) → (c : Dev nD) → Dat τ (Elt F) Ix ℕ U Lvl (cfgs p) c) (D0 : Dev nD → CellTallies nD τ sig Ix) (D2 : Dev nD → CellTallies nD τ sig Ix) :
    (p : Fin 3) → (c : Dev nD) → Dat τ (Elt F) Ix ℕ U Lvl (cfgs p) c
  | ⟨0, _⟩ => fun c => K0.dat 𝒱₀ (Ve0 m) D0 c
  | ⟨2, _⟩ => fun c => K2.dat 𝒱₀ (Ve2 m outs) D2 c
  | p => pdats p

/-! ## The supplied regions' records and entailments -/

-- a library definition stated over `pin pcs a p` unifies with the pinned configuration only when unification may unfold plain
-- definitions in a metavariable's type
set_option backward.isDefEq.respectTransparency.types false in
/-- Region 0 (custom call 0, item 1) from the kernel's run: its arrays held at `V1` in and at `V2` out. Every other held
    buffer, at `V1`, and `Er c` ride; the random-number register goes in and comes out; the core owes `D0 c`. -/
def R0D (m : (ℓ : Loc nD τ sig) → Buf (Elt F) ℓ) (outs : Outs (F := F)) (𝒱₀ : Variants) (L : GSem nD τ sig → Finset Ix) (lv : GSem nD τ sig → Ix → Lvl) (ι : Ix) (pdats : (p : Fin 3) → (c : Dev nD) → Dat τ (Elt F) Ix ℕ U Lvl (cfgs p) c) (D0 : Dev nD → CellTallies nD τ sig Ix) (D2 : Dev nD → CellTallies nD τ sig Ix)
    (b : Dev nD → Lvl) (hcut : Pipeline.LevelCut (pcfgs (F := F)) adm ι L lv 0 D0 b) (Er : Dev nD → sProp (MT nD τ sig Ix (Elt F) ℕ U Lvl))
    (hout0_13 : ∀ c : Dev nD, outs 2 main_v36_0 c = ((pdatsD (U := U) (Lvl := Lvl) m outs 𝒱₀ pdats D0 D2) 0 c).arrAt 13 cfg0.N) (hout0_14 : ∀ c : Dev nD, outs 2 main_v36_1 c = ((pdatsD (U := U) (Lvl := Lvl) m outs 𝒱₀ pdats D0 D2) 0 c).arrAt 14 cfg0.N) (hout0_15 : ∀ c : Dev nD, outs 2 main_v36_2 c = ((pdatsD (U := U) (Lvl := Lvl) m outs 𝒱₀ pdats D0 D2) 0 c).arrAt 15 cfg0.N) :
    RegionSeg (pcfgs (F := F)) adm (pdatsD (U := U) (Lvl := Lvl) m outs 𝒱₀ pdats D0 D2) ι defs₀ 𝒱₀ L lv 0 :=
  Pipeline.RegionSeg.ofHeld (pcfgs (F := F)) adm (pdatsD (U := U) (Lvl := Lvl) m outs 𝒱₀ pdats D0 D2) ι defs₀ 𝒱₀ L lv 0 D0
    (fun c => iprop(∃ r, prngReg c r)) (fun c => iprop(∃ r, prngReg c r))
    launch0.toP rfl
    (fun c => (K0.body_obligation (U := U) (Lvl := Lvl) 𝒱₀ (Ve0 m) D0 ι c).loose) (fun _ _ => rfl) (fun _ => rfl)
    (fun c => ((pdatsD (U := U) (Lvl := Lvl) m outs 𝒱₀ pdats D0 D2) 0 c).share_full fun _ => rfl) (fun _ => .rfl) (fun _ => .rfl) b hcut
    (fun c => iprop(StableHlo.held (c : Thread nD τ) ((Pipeline.ucRefs τ sig) \ Pipeline.arrRefs (τ := τ) spec0) (V1 m c) ∗ Er c))
    (V1 m) (V2 m outs) (fun _ _ => rfl)
    (fun c => fun | 0 => (((pdatsD (U := U) (Lvl := Lvl) m outs 𝒱₀ pdats D0 D2) 0 c).arrAt_in 0 rfl _).trans ((K0.A_eq (U := U) (Lvl := Lvl) 𝒱₀ (Ve0 m) D0 c 0).trans (V2_of m outs c (Pipeline.arrRef spec0 0) (by decide)).symm) | 1 => (((pdatsD (U := U) (Lvl := Lvl) m outs 𝒱₀ pdats D0 D2) 0 c).arrAt_in 1 rfl _).trans ((K0.A_eq (U := U) (Lvl := Lvl) 𝒱₀ (Ve0 m) D0 c 1).trans (V2_of m outs c (Pipeline.arrRef spec0 1) (by decide)).symm) | 2 => (((pdatsD (U := U) (Lvl := Lvl) m outs 𝒱₀ pdats D0 D2) 0 c).arrAt_in 2 rfl _).trans ((K0.A_eq (U := U) (Lvl := Lvl) 𝒱₀ (Ve0 m) D0 c 2).trans (V2_of m outs c (Pipeline.arrRef spec0 2) (by decide)).symm) | 3 => (((pdatsD (U := U) (Lvl := Lvl) m outs 𝒱₀ pdats D0 D2) 0 c).arrAt_in 3 rfl _).trans ((K0.A_eq (U := U) (Lvl := Lvl) 𝒱₀ (Ve0 m) D0 c 3).trans (V2_of m outs c (Pipeline.arrRef spec0 3) (by decide)).symm) | 4 => (((pdatsD (U := U) (Lvl := Lvl) m outs 𝒱₀ pdats D0 D2) 0 c).arrAt_in 4 rfl _).trans ((K0.A_eq (U := U) (Lvl := Lvl) 𝒱₀ (Ve0 m) D0 c 4).trans (V2_of m outs c (Pipeline.arrRef spec0 4) (by decide)).symm) | 5 => (((pdatsD (U := U) (Lvl := Lvl) m outs 𝒱₀ pdats D0 D2) 0 c).arrAt_in 5 rfl _).trans ((K0.A_eq (U := U) (Lvl := Lvl) 𝒱₀ (Ve0 m) D0 c 5).trans (V2_of m outs c (Pipeline.arrRef spec0 5) (by decide)).symm) | 6 => (((pdatsD (U := U) (Lvl := Lvl) m outs 𝒱₀ pdats D0 D2) 0 c).arrAt_in 6 rfl _).trans ((K0.A_eq (U := U) (Lvl := Lvl) 𝒱₀ (Ve0 m) D0 c 6).trans (V2_of m outs c (Pipeline.arrRef spec0 6) (by decide)).symm) | 7 => (((pdatsD (U := U) (Lvl := Lvl) m outs 𝒱₀ pdats D0 D2) 0 c).arrAt_in 7 rfl _).trans ((K0.A_eq (U := U) (Lvl := Lvl) 𝒱₀ (Ve0 m) D0 c 7).trans (V2_of m outs c (Pipeline.arrRef spec0 7) (by decide)).symm) | 8 => (((pdatsD (U := U) (Lvl := Lvl) m outs 𝒱₀ pdats D0 D2) 0 c).arrAt_in 8 rfl _).trans ((K0.A_eq (U := U) (Lvl := Lvl) 𝒱₀ (Ve0 m) D0 c 8).trans (V2_of m outs c (Pipeline.arrRef spec0 8) (by decide)).symm) | 9 => (((pdatsD (U := U) (Lvl := Lvl) m outs 𝒱₀ pdats D0 D2) 0 c).arrAt_in 9 rfl _).trans ((K0.A_eq (U := U) (Lvl := Lvl) 𝒱₀ (Ve0 m) D0 c 9).trans (V2_of m outs c (Pipeline.arrRef spec0 9) (by decide)).symm) | 10 => (((pdatsD (U := U) (Lvl := Lvl) m outs 𝒱₀ pdats D0 D2) 0 c).arrAt_in 10 rfl _).trans ((K0.A_eq (U := U) (Lvl := Lvl) 𝒱₀ (Ve0 m) D0 c 10).trans (V2_of m outs c (Pipeline.arrRef spec0 10) (by decide)).symm) | 11 => (((pdatsD (U := U) (Lvl := Lvl) m outs 𝒱₀ pdats D0 D2) 0 c).arrAt_in 11 rfl _).trans ((K0.A_eq (U := U) (Lvl := Lvl) 𝒱₀ (Ve0 m) D0 c 11).trans (V2_of m outs c (Pipeline.arrRef spec0 11) (by decide)).symm) | 12 => (((pdatsD (U := U) (Lvl := Lvl) m outs 𝒱₀ pdats D0 D2) 0 c).arrAt_in 12 rfl _).trans ((K0.A_eq (U := U) (Lvl := Lvl) 𝒱₀ (Ve0 m) D0 c 12).trans (V2_of m outs c (Pipeline.arrRef spec0 12) (by decide)).symm) | 13 => (hout0_13 c).symm.trans (V2_at_main_v36_0 m outs c).symm | 14 => (hout0_14 c).symm.trans (V2_at_main_v36_1 m outs c).symm | 15 => (hout0_15 c).symm.trans (V2_at_main_v36_2 m outs c).symm | ⟨_ + 16, h⟩ => absurd h (Nat.not_lt.2 (Nat.le_add_left _ _)))

/-- Region 0's entry entailment: the held buffers at `V1` split at its arrays, and the rest state `E 0` sorted (`hEin`). -/
theorem hpre0D (m : (ℓ : Loc nD τ sig) → Buf (Elt F) ℓ) (outs : Outs (F := F)) (𝒱₀ : Variants) (L : GSem nD τ sig → Finset Ix) (lv : GSem nD τ sig → Ix → Lvl) (ι : Ix) (pdats : (p : Fin 3) → (c : Dev nD) → Dat τ (Elt F) Ix ℕ U Lvl (cfgs p) c) (D0 : Dev nD → CellTallies nD τ sig Ix) (D2 : Dev nD → CellTallies nD τ sig Ix)
    (b : Dev nD → Lvl) (hcut : Pipeline.LevelCut (pcfgs (F := F)) adm ι L lv 0 D0 b)
    (E : Fin 4 → Dev nD → sProp (MT nD τ sig Ix (Elt F) ℕ U Lvl)) (Er : Dev nD → sProp (MT nD τ sig Ix (Elt F) ℕ U Lvl))
    (hEin : ∀ c : Dev nD, E 0 c ⊢ iprop((∃ r, prngReg c r) ∗ (∃ W, owes (c : Thread nD τ) (D0 c) W) ∗ Er c))
    (hout0_13 : ∀ c : Dev nD, outs 2 main_v36_0 c = ((pdatsD (U := U) (Lvl := Lvl) m outs 𝒱₀ pdats D0 D2) 0 c).arrAt 13 cfg0.N) (hout0_14 : ∀ c : Dev nD, outs 2 main_v36_1 c = ((pdatsD (U := U) (Lvl := Lvl) m outs 𝒱₀ pdats D0 D2) 0 c).arrAt 14 cfg0.N) (hout0_15 : ∀ c : Dev nD, outs 2 main_v36_2 c = ((pdatsD (U := U) (Lvl := Lvl) m outs 𝒱₀ pdats D0 D2) 0 c).arrAt 15 cfg0.N) (c : Dev nD) :
    iprop(StableHlo.held (c : Thread nD τ) (Pipeline.ucRefs τ sig) (V1 m c) ∗ E 0 c) ⊢ (R0D m outs 𝒱₀ L lv ι pdats D0 D2 b hcut Er hout0_13 hout0_14 hout0_15).pre c := by
  show _ ⊢ iprop(StableHlo.held (c : Thread nD τ) (Pipeline.arrRefs (τ := τ) spec0) (V1 m c) ∗ (∃ r, prngReg c r)
    ∗ (StableHlo.held (c : Thread nD τ) ((Pipeline.ucRefs τ sig) \ Pipeline.arrRefs (τ := τ) spec0) (V1 m c) ∗ Er c) ∗ ∃ W, owes (c : Thread nD τ) (D0 c) W)
  rw [StableHlo.held_sub_split (c : Thread nD τ) arr0_S (V1 m c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 0's exit entailment: its arrays at `V2` rejoined with the other held buffers, unchanged (`rest0_eq`), and the rest state
    `E 1` made (`hEout`). -/
theorem hpost0D (m : (ℓ : Loc nD τ sig) → Buf (Elt F) ℓ) (outs : Outs (F := F)) (𝒱₀ : Variants) (L : GSem nD τ sig → Finset Ix) (lv : GSem nD τ sig → Ix → Lvl) (ι : Ix) (pdats : (p : Fin 3) → (c : Dev nD) → Dat τ (Elt F) Ix ℕ U Lvl (cfgs p) c) (D0 : Dev nD → CellTallies nD τ sig Ix) (D2 : Dev nD → CellTallies nD τ sig Ix)
    (b : Dev nD → Lvl) (hcut : Pipeline.LevelCut (pcfgs (F := F)) adm ι L lv 0 D0 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D0 c) W) ∗ Er c) ⊢ E 1 c)
    (hout0_13 : ∀ c : Dev nD, outs 2 main_v36_0 c = ((pdatsD (U := U) (Lvl := Lvl) m outs 𝒱₀ pdats D0 D2) 0 c).arrAt 13 cfg0.N) (hout0_14 : ∀ c : Dev nD, outs 2 main_v36_1 c = ((pdatsD (U := U) (Lvl := Lvl) m outs 𝒱₀ pdats D0 D2) 0 c).arrAt 14 cfg0.N) (hout0_15 : ∀ c : Dev nD, outs 2 main_v36_2 c = ((pdatsD (U := U) (Lvl := Lvl) m outs 𝒱₀ pdats D0 D2) 0 c).arrAt 15 cfg0.N) (c : Dev nD) :
    (R0D m outs 𝒱₀ L lv ι pdats D0 D2 b hcut Er hout0_13 hout0_14 hout0_15).post c ⊢ iprop(StableHlo.held (c : Thread nD τ) (Pipeline.ucRefs τ sig) (V2 m outs c) ∗ E 1 c) := by
  show iprop(StableHlo.held (c : Thread nD τ) (Pipeline.arrRefs (τ := τ) spec0) (V2 m outs c) ∗ (∃ r, prngReg c r)
    ∗ (StableHlo.held (c : Thread nD τ) ((Pipeline.ucRefs τ sig) \ Pipeline.arrRefs (τ := τ) spec0) (V1 m c) ∗ Er c) ∗ ∃ W, owes (c : Thread nD τ) (D0 c) W) ⊢ _
  rw [StableHlo.held_sub_split (c : Thread nD τ) arr0_S (V2 m outs c),
    StableHlo.held_congr (c : Thread nD τ) (S := (Pipeline.ucRefs τ sig) \ Pipeline.arrRefs (τ := τ) spec0) (rest0_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

-- a library definition stated over `pin pcs a p` unifies with the pinned configuration only when unification may unfold plain
-- definitions in a metavariable's type
set_option backward.isDefEq.respectTransparency.types false in
/-- Region 2 (custom call 2, item 5) from the kernel's run: its arrays held at `V5` in and at `V6` out. Every other held
    buffer, at `V5`, and `Er c` ride; the random-number register goes in and comes out; the core owes `D2 c`. -/
def R2D (m : (ℓ : Loc nD τ sig) → Buf (Elt F) ℓ) (outs : Outs (F := F)) (𝒱₀ : Variants) (L : GSem nD τ sig → Finset Ix) (lv : GSem nD τ sig → Ix → Lvl) (ι : Ix) (pdats : (p : Fin 3) → (c : Dev nD) → Dat τ (Elt F) Ix ℕ U Lvl (cfgs p) c) (D0 : Dev nD → CellTallies nD τ sig Ix) (D2 : Dev nD → CellTallies nD τ sig Ix)
    (b : Dev nD → Lvl) (hcut : Pipeline.LevelCut (pcfgs (F := F)) adm ι L lv 2 D2 b) (Er : Dev nD → sProp (MT nD τ sig Ix (Elt F) ℕ U Lvl))
    (hout2_7 : ∀ c : Dev nD, outs 6 main_v84 c = ((pdatsD (U := U) (Lvl := Lvl) m outs 𝒱₀ pdats D0 D2) 2 c).arrAt 7 cfg2.N) :
    RegionSeg (pcfgs (F := F)) adm (pdatsD (U := U) (Lvl := Lvl) m outs 𝒱₀ pdats D0 D2) ι defs₀ 𝒱₀ L lv 2 :=
  Pipeline.RegionSeg.ofHeld (pcfgs (F := F)) adm (pdatsD (U := U) (Lvl := Lvl) m outs 𝒱₀ pdats D0 D2) ι defs₀ 𝒱₀ L lv 2 D2
    (fun c => iprop(∃ r, prngReg c r)) (fun c => iprop(∃ r, prngReg c r))
    launch2.toP rfl
    (fun c => (K2.body_obligation (U := U) (Lvl := Lvl) 𝒱₀ (Ve2 m outs) D2 ι c).loose) (fun _ _ => rfl) (fun _ => rfl)
    (fun c => ((pdatsD (U := U) (Lvl := Lvl) m outs 𝒱₀ pdats D0 D2) 2 c).share_full fun _ => rfl) (fun _ => .rfl) (fun _ => .rfl) b hcut
    (fun c => iprop(StableHlo.held (c : Thread nD τ) ((Pipeline.ucRefs τ sig) \ Pipeline.arrRefs (τ := τ) spec2) (V5 m outs c) ∗ Er c))
    (V5 m outs) (V6 m outs) (fun _ _ => rfl)
    (fun c => fun | 0 => (((pdatsD (U := U) (Lvl := Lvl) m outs 𝒱₀ pdats D0 D2) 2 c).arrAt_in 0 rfl _).trans ((K2.A_eq (U := U) (Lvl := Lvl) 𝒱₀ (Ve2 m outs) D2 c 0).trans (V6_of m outs c (Pipeline.arrRef spec2 0) (by decide)).symm) | 1 => (((pdatsD (U := U) (Lvl := Lvl) m outs 𝒱₀ pdats D0 D2) 2 c).arrAt_in 1 rfl _).trans ((K2.A_eq (U := U) (Lvl := Lvl) 𝒱₀ (Ve2 m outs) D2 c 1).trans (V6_of m outs c (Pipeline.arrRef spec2 1) (by decide)).symm) | 2 => (((pdatsD (U := U) (Lvl := Lvl) m outs 𝒱₀ pdats D0 D2) 2 c).arrAt_in 2 rfl _).trans ((K2.A_eq (U := U) (Lvl := Lvl) 𝒱₀ (Ve2 m outs) D2 c 2).trans (V6_of m outs c (Pipeline.arrRef spec2 2) (by decide)).symm) | 3 => (((pdatsD (U := U) (Lvl := Lvl) m outs 𝒱₀ pdats D0 D2) 2 c).arrAt_in 3 rfl _).trans ((K2.A_eq (U := U) (Lvl := Lvl) 𝒱₀ (Ve2 m outs) D2 c 3).trans (V6_of m outs c (Pipeline.arrRef spec2 3) (by decide)).symm) | 4 => (((pdatsD (U := U) (Lvl := Lvl) m outs 𝒱₀ pdats D0 D2) 2 c).arrAt_in 4 rfl _).trans ((K2.A_eq (U := U) (Lvl := Lvl) 𝒱₀ (Ve2 m outs) D2 c 4).trans (V6_of m outs c (Pipeline.arrRef spec2 4) (by decide)).symm) | 5 => (((pdatsD (U := U) (Lvl := Lvl) m outs 𝒱₀ pdats D0 D2) 2 c).arrAt_in 5 rfl _).trans ((K2.A_eq (U := U) (Lvl := Lvl) 𝒱₀ (Ve2 m outs) D2 c 5).trans (V6_of m outs c (Pipeline.arrRef spec2 5) (by decide)).symm) | 6 => (((pdatsD (U := U) (Lvl := Lvl) m outs 𝒱₀ pdats D0 D2) 2 c).arrAt_in 6 rfl _).trans ((K2.A_eq (U := U) (Lvl := Lvl) 𝒱₀ (Ve2 m outs) D2 c 6).trans (V6_of m outs c (Pipeline.arrRef spec2 6) (by decide)).symm) | 7 => (hout2_7 c).symm.trans (V6_at_main_v84 m outs c).symm | ⟨_ + 8, h⟩ => absurd h (Nat.not_lt.2 (Nat.le_add_left _ _)))

/-- Region 2's entry entailment: the held buffers at `V5` split at its arrays, and the rest state `E 2` sorted (`hEin`). -/
theorem hpre2D (m : (ℓ : Loc nD τ sig) → Buf (Elt F) ℓ) (outs : Outs (F := F)) (𝒱₀ : Variants) (L : GSem nD τ sig → Finset Ix) (lv : GSem nD τ sig → Ix → Lvl) (ι : Ix) (pdats : (p : Fin 3) → (c : Dev nD) → Dat τ (Elt F) Ix ℕ U Lvl (cfgs p) c) (D0 : Dev nD → CellTallies nD τ sig Ix) (D2 : Dev nD → CellTallies nD τ sig Ix)
    (b : Dev nD → Lvl) (hcut : Pipeline.LevelCut (pcfgs (F := F)) adm ι L lv 2 D2 b)
    (E : Fin 4 → Dev nD → sProp (MT nD τ sig Ix (Elt F) ℕ U Lvl)) (Er : Dev nD → sProp (MT nD τ sig Ix (Elt F) ℕ U Lvl))
    (hEin : ∀ c : Dev nD, E 2 c ⊢ iprop((∃ r, prngReg c r) ∗ (∃ W, owes (c : Thread nD τ) (D2 c) W) ∗ Er c))
    (hout2_7 : ∀ c : Dev nD, outs 6 main_v84 c = ((pdatsD (U := U) (Lvl := Lvl) m outs 𝒱₀ pdats D0 D2) 2 c).arrAt 7 cfg2.N) (c : Dev nD) :
    iprop(StableHlo.held (c : Thread nD τ) (Pipeline.ucRefs τ sig) (V5 m outs c) ∗ E 2 c) ⊢ (R2D m outs 𝒱₀ L lv ι pdats D0 D2 b hcut Er hout2_7).pre c := by
  show _ ⊢ iprop(StableHlo.held (c : Thread nD τ) (Pipeline.arrRefs (τ := τ) spec2) (V5 m outs c) ∗ (∃ r, prngReg c r)
    ∗ (StableHlo.held (c : Thread nD τ) ((Pipeline.ucRefs τ sig) \ Pipeline.arrRefs (τ := τ) spec2) (V5 m outs c) ∗ Er c) ∗ ∃ W, owes (c : Thread nD τ) (D2 c) W)
  rw [StableHlo.held_sub_split (c : Thread nD τ) arr2_S (V5 m outs c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 2's exit entailment: its arrays at `V6` rejoined with the other held buffers, unchanged (`rest2_eq`), and the rest state
    `E 3` made (`hEout`). -/
theorem hpost2D (m : (ℓ : Loc nD τ sig) → Buf (Elt F) ℓ) (outs : Outs (F := F)) (𝒱₀ : Variants) (L : GSem nD τ sig → Finset Ix) (lv : GSem nD τ sig → Ix → Lvl) (ι : Ix) (pdats : (p : Fin 3) → (c : Dev nD) → Dat τ (Elt F) Ix ℕ U Lvl (cfgs p) c) (D0 : Dev nD → CellTallies nD τ sig Ix) (D2 : Dev nD → CellTallies nD τ sig Ix)
    (b : Dev nD → Lvl) (hcut : Pipeline.LevelCut (pcfgs (F := F)) adm ι L lv 2 D2 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D2 c) W) ∗ Er c) ⊢ E 3 c)
    (hout2_7 : ∀ c : Dev nD, outs 6 main_v84 c = ((pdatsD (U := U) (Lvl := Lvl) m outs 𝒱₀ pdats D0 D2) 2 c).arrAt 7 cfg2.N) (c : Dev nD) :
    (R2D m outs 𝒱₀ L lv ι pdats D0 D2 b hcut Er hout2_7).post c ⊢ iprop(StableHlo.held (c : Thread nD τ) (Pipeline.ucRefs τ sig) (V6 m outs c) ∗ E 3 c) := by
  show iprop(StableHlo.held (c : Thread nD τ) (Pipeline.arrRefs (τ := τ) spec2) (V6 m outs c) ∗ (∃ r, prngReg c r)
    ∗ (StableHlo.held (c : Thread nD τ) ((Pipeline.ucRefs τ sig) \ Pipeline.arrRefs (τ := τ) spec2) (V5 m outs c) ∗ Er c) ∗ ∃ W, owes (c : Thread nD τ) (D2 c) W) ⊢ _
  rw [StableHlo.held_sub_split (c : Thread nD τ) arr2_S (V6 m outs c),
    StableHlo.held_congr (c : Thread nD τ) (S := (Pipeline.ucRefs τ sig) \ Pipeline.arrRefs (τ := τ) spec2) (rest2_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

end

/-! ## The frame, those records supplied -/

set_option backward.isDefEq.respectTransparency.types false in
/-- `Gen.frame_cond`'s conclusion from its hypotheses less the records of custom calls 0, 2; the module's header says what stands in
    their place. -/
theorem frame_condD (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c) (D0 : Dev nD → CellTallies nD τ sig Ix) (D2 : Dev nD → CellTallies nD τ sig Ix)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    -- region 0 (custom call 0), its record supplied
    (b0 : Dev nD → Lvl) (hcut0 : Pipeline.LevelCut (pcfgs (F := F)) adm ι L lv 0 D0 b0) (Er0 : Dev nD → sProp (MT nD τ sig Ix (Elt F) ℕ U Lvl))
    (hEin0 : ∀ c : Dev nD, E 0 c ⊢ iprop((∃ r, prngReg c r) ∗ (∃ W, owes (c : Thread nD τ) (D0 c) W) ∗ Er0 c))
    (hEout0 : ∀ c : Dev nD, iprop((∃ r, prngReg c r) ∗ (∃ W, owes (c : Thread nD τ) (D0 c) W) ∗ Er0 c) ⊢ E 1 c)
    (hout0_13 : ∀ c : Dev nD, outs 2 main_v36_0 c = ((pdatsD (U := U) (Lvl := Lvl) m outs 𝒱₀ pdats D0 D2) 0 c).arrAt 13 cfg0.N) (hout0_14 : ∀ c : Dev nD, outs 2 main_v36_1 c = ((pdatsD (U := U) (Lvl := Lvl) m outs 𝒱₀ pdats D0 D2) 0 c).arrAt 14 cfg0.N) (hout0_15 : ∀ c : Dev nD, outs 2 main_v36_2 c = ((pdatsD (U := U) (Lvl := Lvl) m outs 𝒱₀ pdats D0 D2) 0 c).arrAt 15 cfg0.N)
    (R1 : RegionSeg (pcfgs (F := F)) adm (pdatsD (U := U) (Lvl := Lvl) m outs 𝒱₀ pdats D0 D2) ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    -- region 2 (custom call 2), its record supplied
    (b2 : Dev nD → Lvl) (hcut2 : Pipeline.LevelCut (pcfgs (F := F)) adm ι L lv 2 D2 b2) (Er2 : Dev nD → sProp (MT nD τ sig Ix (Elt F) ℕ U Lvl))
    (hEin2 : ∀ c : Dev nD, E 2 c ⊢ iprop((∃ r, prngReg c r) ∗ (∃ W, owes (c : Thread nD τ) (D2 c) W) ∗ Er2 c))
    (hEout2 : ∀ c : Dev nD, iprop((∃ r, prngReg c r) ∗ (∃ W, owes (c : Thread nD τ) (D2 c) W) ∗ Er2 c) ⊢ E 3 c)
    (hout2_7 : ∀ c : Dev nD, outs 6 main_v84 c = ((pdatsD (U := U) (Lvl := Lvl) m outs 𝒱₀ pdats D0 D2) 2 c).arrAt 7 cfg2.N) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  frame_cond m EP ι 𝒱₀ L lv hL ρ outs (pdatsD (U := U) (Lvl := Lvl) m outs 𝒱₀ pdats D0 D2) O₀ G u₀ hu₀ E hE0 hE3
    (R0D m outs 𝒱₀ L lv ι pdats D0 D2 b0 hcut0 Er0 hout0_13 hout0_14 hout0_15)
      (hpre0D m outs 𝒱₀ L lv ι pdats D0 D2 b0 hcut0 E Er0 hEin0 hout0_13 hout0_14 hout0_15)
      (hpost0D m outs 𝒱₀ L lv ι pdats D0 D2 b0 hcut0 E Er0 hEout0 hout0_13 hout0_14 hout0_15)
    R1 hpre1 hpost1
    (R2D m outs 𝒱₀ L lv ι pdats D0 D2 b2 hcut2 Er2 hout2_7)
      (hpre2D m outs 𝒱₀ L lv ι pdats D0 D2 b2 hcut2 E Er2 hEin2 hout2_7)
      (hpost2D m outs 𝒱₀ L lv ι pdats D0 D2 b2 hcut2 E Er2 hEout2 hout2_7)

end Cert.KernelIdeal.Own

end
-- ==== Proof.Ideal.Scan.lean ====
module

public import proofs.«01_k».proof.Proof.Ideal.Body
public import proofs.«01_k».proof.Proof.Ideal.Regs
public import Idealize.ShloMosaic.Lib.Pipeline.RegionArraysD

@[expose] public section

set_option maxRecDepth 16384
set_option maxHeartbeats 4000000

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat UC BodyObligation)

variable {F : FTy → Type} [FloatOps F]

local notation "𝕄" => MT nD τ sig Unit (Elt F) ℕ (UC sig nD τ) ℕ

variable (𝒱₀ : Variants) (V : (c : Dev nD) → (b : Ref sig .tc) → Buf (Elt F) ((c : Thread nD τ).loc b))

/-- The block of input window `w` at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A point's number is its only coordinate. -/
theorem coords_val : ∀ t : Fin grid1.N, (grid1.coords t 0).val = t.val := by decide

/-- The states inside point `t`, from what the point before left. -/
def chunkAt (c : Dev nD) (t : Fin cfg1.N) (s : Vec F S48x64x64 .f32 × Vec F S48x64x64 .f32) : ℕ → Vec F S48x64x64 .f32 × Vec F S48x64x64 .f32 :=
  chain (iblk V c 2 t) (iblk V c 3 t) (iblk V c 4 t) (iblk V c 5 t) (iblk V c 6 t) (iblk V c 7 t) (iblk V c 8 t) (iblk V c 9 t)
    (fun j => rowG (V c main_v37) (256 * t.val + j)) (fun j => rowG (V c main_v38) (256 * t.val + j))
    (start t.val (iblk V c 0 t) (iblk V c 1 t) s.1 s.2)

/-- The memory and the momentum after `n` points. -/
def stAt (c : Dev nD) : ℕ → Vec F S48x64x64 .f32 × Vec F S48x64x64 .f32
  | 0 => (iblk V c 0 t1_0, iblk V c 1 t1_0)
  | n + 1 => if h : n < cfg1.N then chunkAt V c ⟨n, h⟩ (stAt c n) 256 else stAt c n

/-- The output after `n` points. -/
def oAt (c : Dev nD) : ℕ → Vec F S4x2048x12x64 .f32
  | 0 => V c main_v81_0
  | n + 1 => if h : n < cfg1.N then
      setBlk (oAt c n) n (outRows (chunkAt V c ⟨n, h⟩ (stAt V c n)) (fun j => rowG (V c main_v39) (256 * n + j)) (chunk (V c main_v37) n) 256)
    else oAt c n

/-- One more grid point runs one more chunk. -/
theorem stAt_succ (c : Dev nD) (t : Fin cfg1.N) : stAt V c (t.val + 1) = chunkAt V c t (stAt V c t.val) 256 := by
  rw [stAt, dif_pos t.isLt]

/-- One more grid point sets one more block of output rows. -/
theorem oAt_succ (c : Dev nD) (t : Fin cfg1.N) : oAt V c (t.val + 1) = setBlk (oAt V c t.val) t.val
    (outRows (chunkAt V c t (stAt V c t.val)) (fun j => rowG (V c main_v39) (256 * t.val + j)) (chunk (V c main_v37) t.val) 256) := by
  rw [oAt, dif_pos t.isLt]

/-- All 256 rows are written, so what was there before does not show. -/
theorem outRows_all (st : ℕ → Vec F S48x64x64 .f32 × Vec F S48x64x64 .f32) (q : ℕ → Vec F S1x48x64 .f32) (O O' : Vec F S256x48x64 .f32) :
    outRows st q O 256 = outRows st q O' 256 := by
  funext y
  have h : (y 0).val < 256 := (y 0).isLt
  unfold outRows; rw [if_pos h, if_pos h]

/-- The region's invariant before point `n`: its scratch buffers at any contents, its semaphores at zero, the three operands it
    reads, and the output with the first `n` points' times written. -/
def Φn (c : Dev nD) (n : ℕ) : sProp 𝕄 :=
  iprop(Pipeline.scopedRest (Ix := Unit) (Name := ℕ) (U := UC sig nD τ) (Lvl := ℕ) (Val := Elt F) spec1 c ∗ (∃ r, prngReg c r)
    ∗ Pipeline.ownSems0 (Ix := Unit) (Name := ℕ) (U := UC sig nD τ) (Lvl := ℕ) (Val := Elt F) (τ := τ) osem c
    ∗ (((c : Thread nD τ).loc main_v37) ↦{fullShare} V c main_v37) ∗ (((c : Thread nD τ).loc main_v38) ↦{fullShare} V c main_v38)
    ∗ (((c : Thread nD τ).loc main_v39) ↦{fullShare} V c main_v39) ∗ (((c : Thread nD τ).loc main_v81_0) ↦{fullShare} oAt V c n))

/-- The proof data of the scan's pipeline. -/
def dat (c : Dev nD) : Dat τ (Elt F) Unit ℕ (UC sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => (stAt V c (t.val + 1)).1
    | ⟨11, _⟩ => (stAt V c (t.val + 1)).2
  Φ t := Φn V c t.val
  q _ := fullShare
  owed _ := 0

/-- A windowed array of the scan starts with what the scan finds in it. -/
theorem A_eq (c : Dev nD) (w : Fin cfg1.W) : (dat V c).A w = V c (Pipeline.arrRef spec1 w) := by dsimp only [dat]

/-- What the body leaves in window 0. -/
theorem after_0 (c : Dev nD) (t : Fin cfg1.N) : (dat V c).after 0 t = iblk V c 0 t := by dsimp only [dat]
/-- What the body finds in window 0. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- What the body leaves in window 1. -/
theorem after_1 (c : Dev nD) (t : Fin cfg1.N) : (dat V c).after 1 t = iblk V c 1 t := by dsimp only [dat]
/-- What the body finds in window 1. -/
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- What the body leaves in window 2. -/
theorem after_2 (c : Dev nD) (t : Fin cfg1.N) : (dat V c).after 2 t = iblk V c 2 t := by dsimp only [dat]
/-- What the body finds in window 2. -/
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- What the body leaves in window 3. -/
theorem after_3 (c : Dev nD) (t : Fin cfg1.N) : (dat V c).after 3 t = iblk V c 3 t := by dsimp only [dat]
/-- What the body finds in window 3. -/
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- What the body leaves in window 4. -/
theorem after_4 (c : Dev nD) (t : Fin cfg1.N) : (dat V c).after 4 t = iblk V c 4 t := by dsimp only [dat]
/-- What the body finds in window 4. -/
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- What the body leaves in window 5. -/
theorem after_5 (c : Dev nD) (t : Fin cfg1.N) : (dat V c).after 5 t = iblk V c 5 t := by dsimp only [dat]
/-- What the body finds in window 5. -/
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- What the body leaves in window 6. -/
theorem after_6 (c : Dev nD) (t : Fin cfg1.N) : (dat V c).after 6 t = iblk V c 6 t := by dsimp only [dat]
/-- What the body finds in window 6. -/
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
/-- What the body leaves in window 7. -/
theorem after_7 (c : Dev nD) (t : Fin cfg1.N) : (dat V c).after 7 t = iblk V c 7 t := by dsimp only [dat]
/-- What the body finds in window 7. -/
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
/-- What the body leaves in window 8. -/
theorem after_8 (c : Dev nD) (t : Fin cfg1.N) : (dat V c).after 8 t = iblk V c 8 t := by dsimp only [dat]
/-- What the body finds in window 8. -/
theorem before_8 (c : Dev nD) (t : Fin cfg1.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
/-- What the body leaves in window 9. -/
theorem after_9 (c : Dev nD) (t : Fin cfg1.N) : (dat V c).after 9 t = iblk V c 9 t := by dsimp only [dat]
/-- What the body finds in window 9. -/
theorem before_9 (c : Dev nD) (t : Fin cfg1.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
/-- The body leaves the state after the point's chunk in its window, -/
theorem after_10 (c : Dev nD) (t : Fin cfg1.N) : (dat V c).after 10 t = (stAt V c (t.val + 1)).1 := by dsimp only [dat]
/-- After the first point the window still holds what the point before left. -/
theorem before_10 (c : Dev nD) (t : Fin cfg1.N) (ht : t.val ≠ 0) (d) : (dat V c).before 10 t d = (stAt V c t.val).1 := by
  have hN : t.val < 8 := lt_of_lt_of_eq t.isLt N_1
  rw [(dat V c).before_out_kept 10 rfl t ht (by
    rw [Bool.eq_false_iff]; intro h; have := (flush1_10 _).mp h; simp only at this; omega) (fun _ => rfl) (fun _ _ => rfl) d, after_10]
  rw [show t.val - 1 + 1 = t.val by omega]
/-- and the momentum in its own. -/
theorem after_11 (c : Dev nD) (t : Fin cfg1.N) : (dat V c).after 11 t = (stAt V c (t.val + 1)).2 := by dsimp only [dat]
/-- After the first point the window still holds what the point before left. -/
theorem before_11 (c : Dev nD) (t : Fin cfg1.N) (ht : t.val ≠ 0) (d) : (dat V c).before 11 t d = (stAt V c t.val).2 := by
  have hN : t.val < 8 := lt_of_lt_of_eq t.isLt N_1
  rw [(dat V c).before_out_kept 11 rfl t ht (by
    rw [Bool.eq_false_iff]; intro h; have := (flush1_11 _).mp h; simp only at this; omega) (fun _ => rfl) (fun _ _ => rfl) d, after_11]
  rw [show t.val - 1 + 1 = t.val by omega]

/-- What the body starts from is the state so far: at the first grid point the given one, later what the point before left. -/
theorem start_eq (c : Dev nD) (t : Fin cfg1.N) (d d') (a b : Vec F S48x64x64 .f32) :
    start t.val a b ((dat V c).before 10 t d) ((dat V c).before 11 t d') = start t.val a b (stAt V c t.val).1 (stAt V c t.val).2 := by
  unfold start
  by_cases h : t.val = 0
  · rw [if_pos h, if_pos h]
  · rw [if_neg h, if_neg h, before_10 V c t h, before_11 V c t h]

/-- The sixteen semaphores of the copies, one by one. -/
theorem ownSems_eq (c : Dev nD) : (Pipeline.ownSems0 (Ix := Unit) (Name := ℕ) (U := UC sig nD τ) (Lvl := ℕ) (Val := Elt F) (τ := τ) osem c : sProp 𝕄)
    = iprop(semVal ((c : Thread nD τ), SemLoc.dma ((cc1_scratch4.slice (Rect.unit (s := S12) ![0] S1.size inb_S12_S1_0)).squeeze S_ squeezes_S1_S_).sem) 0 ∗ semVal ((c : Thread nD τ), SemLoc.dma ((cc1_scratch4.slice (Rect.unit (s := S12) ![1] S1.size inb_S12_S1_1)).squeeze S_ squeezes_S1_S_).sem) 0 ∗ semVal ((c : Thread nD τ), SemLoc.dma ((cc1_scratch4.slice (Rect.unit (s := S12) ![2] S1.size inb_S12_S1_2)).squeeze S_ squeezes_S1_S_).sem) 0 ∗ semVal ((c : Thread nD τ), SemLoc.dma ((cc1_scratch4.slice (Rect.unit (s := S12) ![3] S1.size inb_S12_S1_3)).squeeze S_ squeezes_S1_S_).sem) 0 ∗ semVal ((c : Thread nD τ), SemLoc.dma ((cc1_scratch4.slice (Rect.unit (s := S12) ![4] S1.size inb_S12_S1_4)).squeeze S_ squeezes_S1_S_).sem) 0 ∗ semVal ((c : Thread nD τ), SemLoc.dma ((cc1_scratch4.slice (Rect.unit (s := S12) ![5] S1.size inb_S12_S1_5)).squeeze S_ squeezes_S1_S_).sem) 0 ∗ semVal ((c : Thread nD τ), SemLoc.dma ((cc1_scratch4.slice (Rect.unit (s := S12) ![6] S1.size inb_S12_S1_6)).squeeze S_ squeezes_S1_S_).sem) 0 ∗ semVal ((c : Thread nD τ), SemLoc.dma ((cc1_scratch4.slice (Rect.unit (s := S12) ![7] S1.size inb_S12_S1_7)).squeeze S_ squeezes_S1_S_).sem) 0 ∗ semVal ((c : Thread nD τ), SemLoc.dma ((cc1_scratch4.slice (Rect.unit (s := S12) ![8] S1.size inb_S12_S1_8)).squeeze S_ squeezes_S1_S_).sem) 0 ∗ semVal ((c : Thread nD τ), SemLoc.dma ((cc1_scratch4.slice (Rect.unit (s := S12) ![9] S1.size inb_S12_S1_9)).squeeze S_ squeezes_S1_S_).sem) 0 ∗ semVal ((c : Thread nD τ), SemLoc.dma ((cc1_scratch4.slice (Rect.unit (s := S12) ![10] S1.size inb_S12_S1_10)).squeeze S_ squeezes_S1_S_).sem) 0 ∗ semVal ((c : Thread nD τ), SemLoc.dma ((cc1_scratch4.slice (Rect.unit (s := S12) ![11] S1.size inb_S12_S1_11)).squeeze S_ squeezes_S1_S_).sem) 0 ∗ semVal ((c : Thread nD τ), SemLoc.dma ((cc1_scratch5.slice (Rect.unit (s := S4) ![0] S1.size inb_S4_S1_0)).squeeze S_ squeezes_S1_S_).sem) 0 ∗ semVal ((c : Thread nD τ), SemLoc.dma ((cc1_scratch5.slice (Rect.unit (s := S4) ![1] S1.size inb_S4_S1_1)).squeeze S_ squeezes_S1_S_).sem) 0 ∗ semVal ((c : Thread nD τ), SemLoc.dma ((cc1_scratch5.slice (Rect.unit (s := S4) ![2] S1.size inb_S4_S1_2)).squeeze S_ squeezes_S1_S_).sem) 0 ∗ semVal ((c : Thread nD τ), SemLoc.dma ((cc1_scratch5.slice (Rect.unit (s := S4) ![3] S1.size inb_S4_S1_3)).squeeze S_ squeezes_S1_S_).sem) 0) :=
  (Pipeline.ownSems0_eq_of_list c osem [0, 1, 2, 3, 4, 5, 6, 7, 8, 9, 10, 11, 12, 13, 14, 15] (by decide) (by decide)).trans rfl

/-- A whole buffer's contents, as owned through its reference and back. -/
theorem to_owns (c : Dev nD) (b : Ref sig .tc) (f : b.ty.Contents (Elt F)) :
    (((c : Thread nD τ).loc b) ↦{fullShare} f : sProp 𝕄) ⊢ owns (c : Thread nD τ) (Memref.whole b) fullShare f := by
  rw [owns_whole (c : Thread nD τ) b]
/-- The same, the other way. -/
theorem of_owns (c : Dev nD) (b : Ref sig .tc) (f : b.ty.Contents (Elt F)) :
    owns (c : Thread nD τ) (Memref.whole b) fullShare f ⊢ (((c : Thread nD τ).loc b) ↦{fullShare} f : sProp 𝕄) := by
  rw [owns_whole (c : Thread nD τ) b]

/-- What the body finds at a grid point. -/
def bodyPre (c : Dev nD) (t : Fin cfg1.N) : sProp 𝕄 :=
  iprop((dat V c).Φ t.castSucc
    ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d)))

/-- What the body leaves at a grid point. -/
def bodyPost (c : Dev nD) (t : Fin cfg1.N) : sProp 𝕄 :=
  iprop((dat V c).Φ t.succ
    ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t))

/-- The body at any point. -/
theorem sound_body (c : Dev nD) (t : Fin cfg1.N) :
    bodyPre V c t ⊢ wp frame (wpE (defs₀ (F := F)) 𝒱₀ c none) Set.univ (bodyAt1 t) (fun _ => bodyPost V c t) := by
  unfold bodyPre bodyPost bodyAt1
  simp only [before_0, before_1, before_2, before_3, before_4, before_5, before_6, before_7, before_8, before_9]
  rw [after_0, after_1, after_2, after_3, after_4, after_5, after_6, after_7, after_8, after_9, after_10, after_11,
    show (dat V c).Φ t.castSucc = Φn V c t.val from rfl, show (dat V c).Φ t.succ = Φn V c (t.val + 1) from rfl, stAt_succ]
  unfold Φn
  rw [ownSems_eq, oAt_succ, scopedRest1_split]
  iintro ⟨⟨⟨⟨⟨%s0, Hs0⟩, ⟨%s1, Hs1⟩, ⟨%s2, Hs2⟩, ⟨%s3, Hs3⟩⟩, Hrest⟩, Hp, HS, HK, HV, HQ, HO⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_wand_r frame _)
  isplitl [HK HV HQ H0 H1 H2 H3 H4 H5 H6 H7 H8 H9 HO H10 H11 Hs0 Hs1 Hs2 Hs3 HS HW]
  · iapply (bodyRun 𝒱₀ c (grid1.coords t) _ _ _ _ _ _ _ _ _ _ _ _ _ _ _ _ _ _ _ _ _ _ _ _ _ _ _ _ _ _ _ _ _ _ _ _ _ _ _ _ W
      (V c main_v37) (V c main_v38) (V c main_v39) (oAt V c t.val) (iblk V c 0 t) (iblk V c 1 t) (iblk V c 2 t) (iblk V c 3 t) (iblk V c 4 t) (iblk V c 5 t) (iblk V c 6 t) (iblk V c 7 t) (iblk V c 8 t) (iblk V c 9 t)
      ((dat V c).before 10 t d10) ((dat V c).before 11 t d11) s0 s1 s2 s3)
    isplitl [HK]; · iapply (to_owns c main_v37); iexact HK
    isplitl [HV]; · iapply (to_owns c main_v38); iexact HV
    isplitl [HQ]; · iapply (to_owns c main_v39); iexact HQ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HO]; · iapply (to_owns c main_v81_0); iexact HO
    isplitl [H10]; · iexact H10
    isplitl [H11]; · iexact H11
    isplitl [Hs0]; · iapply (to_owns c cc1_scratch0); iexact Hs0
    isplitl [Hs1]; · iapply (to_owns c cc1_scratch1); iexact Hs1
    isplitl [Hs2]; · iapply (to_owns c cc1_scratch2); iexact Hs2
    isplitl [Hs3]; · iapply (to_owns c cc1_scratch3); iexact Hs3
    isplitl [HS]; · iexact HS
    iexact HW
  rw [coords_val t, start_eq V c t d10 d11]
  iintro %_ ⟨HK, HV, HQ, H0, H1, H2, H3, H4, H5, H6, H7, H8, H9, HO, H10, H11, ⟨%x0, Hs0⟩, ⟨%x1, Hs1⟩, ⟨%x2, Hs2⟩, ⟨%x3, Hs3⟩, HS, ⟨%W', HW⟩⟩
  isplitl [HK HV HQ HO Hs0 Hs1 Hs2 Hs3 HS Hrest Hp]
  · isplitl [Hs0 Hs1 Hs2 Hs3 Hrest]
    · isplitl [Hs0 Hs1 Hs2 Hs3]
      · isplitl [Hs0]; · iexists _; iapply (of_owns c cc1_scratch0); iexact Hs0
        isplitl [Hs1]; · iexists _; iapply (of_owns c cc1_scratch1); iexact Hs1
        isplitl [Hs2]; · iexists _; iapply (of_owns c cc1_scratch2); iexact Hs2
        iexists _; iapply (of_owns c cc1_scratch3); iexact Hs3
      iexact Hrest
    isplitl [Hp]; · iexact Hp
    isplitl [HS]; · iexact HS
    isplitl [HK]; · iapply (of_owns c main_v37); iexact HK
    isplitl [HV]; · iapply (of_owns c main_v38); iexact HV
    isplitl [HQ]; · iapply (of_owns c main_v39); iexact HQ
    rw [outRows_all _ _ (chunk (V c main_v37) t.val) s3]
    iapply (of_owns c main_v81_0); iexact HO
  isplitl [HW]
  · iexists W'; isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt1` spells it. -/
theorem defs₀_row (t : Fin cfg1.N) : defs₀ (F := F) .tc cfg1.body (cfg1.bodyArgs t (cfg1.slots t)) = bodyAt1 t := by
  unfold defs₀; rw [Defs.onTc_tc]

/-- The library's body obligation, at every point. -/
theorem body_obligation (c : Dev nD) : BodyObligation (dat V c) (defs₀ (F := F)) 𝒱₀ () Set.univ := fun t => by
  rw [bigSep_W1, bigSep_W1, defs₀_row]
  exact triple_restated (sound_body 𝒱₀ V c t) rfl .rfl fun _ => .rfl

end Cert.KernelIdeal.Scan

end
-- ==== Proof.Ideal.Run.lean ====
module

public import proofs.«01_k».proof.Proof.Ideal.Scan

@[expose] public section

set_option maxRecDepth 16384
set_option maxHeartbeats 4000000

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat UC Seg HostSeg RegionSeg)

variable {F : FTy → Type} [FloatOps F]

local notation "𝕄" => MT nD τ sig Unit (Elt F) ℕ (UC sig nD τ) ℕ

/-! ## The scan's region: what it changes -/

/-- What the scan finds. -/
abbrev Ve1 (m : (ℓ : Loc nD τ sig) → Buf (Elt F) ℓ) (outs : Outs (F := F)) (c : Dev nD) (b : Ref sig .tc) : Buf (Elt F) ((c : Thread nD τ).loc b) := V3 m outs c (Proc.devRef .tc b)

/-- The waits of every core's own cells sit at one level. -/
def lev : GSem nD τ sig → Finset Unit := fun g => if g.1.2 = .tc then {()} else ∅

/-- A cell of another thread's carries no wait. -/
theorem lev_off (g : GSem nD τ sig) (h : g.1.2 ≠ .tc) : lev g = ∅ := if_neg h

/-- No core owes anything, so every region's waits are allowed. -/
theorem cut (p : Fin 3) : Pipeline.LevelCut (Lvl := ℕ) (pcfgs (F := F)) adm () lev (fun _ _ => 0) p (fun _ => 0) (fun _ => 0) where
  hι _ _ _ := by unfold lev; rw [if_pos rfl]; exact Finset.mem_singleton_self _
  hιb _ _ _ := le_refl _
  hD _ _ _ h := absurd h (Nat.lt_irrefl 0)

/-- Each windowed array of the scan is among its arrays. -/
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
/-- The scan's windowed arrays are held between the calls. -/
theorem arr1_S : Pipeline.arrRefs (τ := τ) spec1 ⊆ Pipeline.ucRefs τ sig :=
  Pipeline.arrRefs_sub_ucRefs spec1 (by decide)

/-- The three operands the scan's copies read, -/
abbrev Hin : Finset (Ref sig .tc) := {main_v37, main_v38, main_v39}
/-- and the one they write. -/
abbrev Hout : Finset (Ref sig .tc) := {main_v81_0}
/-- The held buffers that are not windowed arrays of the scan. -/
abbrev Sr : Finset (DevRef τ sig) := Pipeline.ucRefs τ sig \ Pipeline.arrRefs (τ := τ) spec1

/-- The three operands the copies read are held and are not windowed arrays of the scan. -/
theorem Hin_sub : Pipeline.hbmRefs (τ := τ) Hin ⊆ Sr := fun b hb => by
  obtain ⟨r, hr, rfl⟩ := Finset.mem_map.mp hb
  refine Finset.mem_sdiff.mpr ⟨Finset.mem_filter.mpr ⟨StableHlo.devRef_mem_tcRefs _, ?_⟩, fun h => ?_⟩
  · revert r; decide
  · obtain ⟨r', hr', e⟩ := Finset.mem_map.mp h
    have e' : r' = r := Proc.devRef_injective _ e
    subst e'
    revert r'; decide

/-- The array the copies write is held, is no windowed array and is none of the three operands. -/
theorem Hout_sub : Pipeline.hbmRefs (τ := τ) Hout ⊆ Sr \ Pipeline.hbmRefs Hin := fun b hb => by
  obtain ⟨r, hr, rfl⟩ := Finset.mem_map.mp hb
  refine Finset.mem_sdiff.mpr ⟨Finset.mem_sdiff.mpr ⟨Finset.mem_filter.mpr ⟨StableHlo.devRef_mem_tcRefs _, ?_⟩, fun h => ?_⟩, fun h => ?_⟩
  · revert r; decide
  · obtain ⟨r', hr', e⟩ := Finset.mem_map.mp h
    have e' : r' = r := Proc.devRef_injective _ e
    subst e'
    revert r'; decide
  · obtain ⟨r', hr', e⟩ := Finset.mem_map.mp h
    have e' : r' = r := Proc.devRef_injective _ e
    subst e'
    revert r'; decide

/-- After the scan the array of the final state holds what the scan leaves. -/
theorem V4_at_main_v81_1 (m : (ℓ : Loc nD τ sig) → Buf (Elt F) ℓ) (outs : Outs (F := F)) (c : Dev nD) : V4 m outs c (Proc.devRef .tc main_v81_1) = outs 4 main_v81_1 c := by
  simp only [V4, Function.update_of_ne (StableHlo.devRef_ne_of_ne (by decide : (main_v81_1 : Ref sig .tc) ≠ main_v81_2)), Function.update_of_ne (StableHlo.devRef_ne_of_ne (by decide : (main_v81_1 : Ref sig .tc) ≠ main_v37)), Function.update_of_ne (StableHlo.devRef_ne_of_ne (by decide : (main_v81_1 : Ref sig .tc) ≠ main_v38)), Function.update_of_ne (StableHlo.devRef_ne_of_ne (by decide : (main_v81_1 : Ref sig .tc) ≠ main_v39)), Function.update_of_ne (StableHlo.devRef_ne_of_ne (by decide : (main_v81_1 : Ref sig .tc) ≠ main_v81_0)), Function.update_self]

/-- After the scan the array of the final momentum holds what the scan leaves. -/
theorem V4_at_main_v81_2 (m : (ℓ : Loc nD τ sig) → Buf (Elt F) ℓ) (outs : Outs (F := F)) (c : Dev nD) : V4 m outs c (Proc.devRef .tc main_v81_2) = outs 4 main_v81_2 c := by
  simp only [V4, Function.update_of_ne (StableHlo.devRef_ne_of_ne (by decide : (main_v81_2 : Ref sig .tc) ≠ main_v37)), Function.update_of_ne (StableHlo.devRef_ne_of_ne (by decide : (main_v81_2 : Ref sig .tc) ≠ main_v38)), Function.update_of_ne (StableHlo.devRef_ne_of_ne (by decide : (main_v81_2 : Ref sig .tc) ≠ main_v39)), Function.update_of_ne (StableHlo.devRef_ne_of_ne (by decide : (main_v81_2 : Ref sig .tc) ≠ main_v81_0)), Function.update_self]

/-- After the scan the operand `k` holds what the scan leaves there. -/
theorem V4_at_main_v37 (m : (ℓ : Loc nD τ sig) → Buf (Elt F) ℓ) (outs : Outs (F := F)) (c : Dev nD) : V4 m outs c (Proc.devRef .tc main_v37) = outs 4 main_v37 c := by
  simp only [V4, Function.update_of_ne (StableHlo.devRef_ne_of_ne (by decide : (main_v37 : Ref sig .tc) ≠ main_v38)), Function.update_of_ne (StableHlo.devRef_ne_of_ne (by decide : (main_v37 : Ref sig .tc) ≠ main_v39)), Function.update_of_ne (StableHlo.devRef_ne_of_ne (by decide : (main_v37 : Ref sig .tc) ≠ main_v81_0)), Function.update_self]

/-- After the scan the operand `v` holds what the scan leaves there. -/
theorem V4_at_main_v38 (m : (ℓ : Loc nD τ sig) → Buf (Elt F) ℓ) (outs : Outs (F := F)) (c : Dev nD) : V4 m outs c (Proc.devRef .tc main_v38) = outs 4 main_v38 c := by
  simp only [V4, Function.update_of_ne (StableHlo.devRef_ne_of_ne (by decide : (main_v38 : Ref sig .tc) ≠ main_v39)), Function.update_of_ne (StableHlo.devRef_ne_of_ne (by decide : (main_v38 : Ref sig .tc) ≠ main_v81_0)), Function.update_self]

/-- After the scan the operand `q` holds what the scan leaves there. -/
theorem V4_at_main_v39 (m : (ℓ : Loc nD τ sig) → Buf (Elt F) ℓ) (outs : Outs (F := F)) (c : Dev nD) : V4 m outs c (Proc.devRef .tc main_v39) = outs 4 main_v39 c := by
  simp only [V4, Function.update_of_ne (StableHlo.devRef_ne_of_ne (by decide : (main_v39 : Ref sig .tc) ≠ main_v81_0)), Function.update_self]

/-- After the scan the array of the outputs holds what the scan leaves. -/
theorem V4_at_main_v81_0 (m : (ℓ : Loc nD τ sig) → Buf (Elt F) ℓ) (outs : Outs (F := F)) (c : Dev nD) : V4 m outs c (Proc.devRef .tc main_v81_0) = outs 4 main_v81_0 c := by
  simp only [V4, Function.update_self]

/-- Off its two windowed results and its own output the scan leaves every held buffer as it was. -/
theorem rest1_eq (m : (ℓ : Loc nD τ sig) → Buf (Elt F) ℓ) (outs : Outs (F := F)) (h37 : ∀ c : Dev nD, outs 4 main_v37 c = Ve1 m outs c main_v37) (h38 : ∀ c : Dev nD, outs 4 main_v38 c = Ve1 m outs c main_v38) (h39 : ∀ c : Dev nD, outs 4 main_v39 c = Ve1 m outs c main_v39) (c : Dev nD) :
    ∀ b ∈ Sr \ Pipeline.hbmRefs (τ := τ) Hout, V4 m outs c b = V3 m outs c b := fun b hb => by
  have hn : b ∉ Pipeline.arrRefs (τ := τ) spec1 := (Finset.mem_sdiff.mp (Finset.mem_sdiff.mp hb).1).2
  have ho : b ∉ Pipeline.hbmRefs (τ := τ) Hout := (Finset.mem_sdiff.mp hb).2
  by_cases e37 : b = Proc.devRef .tc main_v37
  · subst e37; rw [V4_at_main_v37, h37]
  by_cases e38 : b = Proc.devRef .tc main_v38
  · subst e38; rw [V4_at_main_v38, h38]
  by_cases e39 : b = Proc.devRef .tc main_v39
  · subst e39; rw [V4_at_main_v39, h39]
  have h1 : b ≠ Proc.devRef .tc main_v81_1 := by rintro rfl; exact hn (arr1_mem 10)
  have h2 : b ≠ Proc.devRef .tc main_v81_2 := by rintro rfl; exact hn (arr1_mem 11)
  have h0 : b ≠ Proc.devRef .tc main_v81_0 := by rintro rfl; exact ho (Finset.mem_map_of_mem _ (Finset.mem_singleton_self _))
  simp only [V4, Function.update_of_ne h1, Function.update_of_ne h2, Function.update_of_ne e37, Function.update_of_ne e38, Function.update_of_ne e39, Function.update_of_ne h0]

/-- The proof data of the three pipelines. -/
def pd (m : (ℓ : Loc nD τ sig) → Buf (Elt F) ℓ) (outs : Outs (F := F)) : (p : Fin 3) → (c : Dev nD) → Dat τ (Elt F) Unit ℕ (UC sig nD τ) ℕ (cfgs p) c
  | ⟨0, _⟩ => fun c => K0.dat Variants.none (Ve0 m) (fun _ => 0) c
  | ⟨1, _⟩ => fun c => Scan.dat (Ve1 m outs) c
  | ⟨2, _⟩ => fun c => K2.dat Variants.none (Ve2 m outs) (fun _ => 0) c

/-- The three calls' data, the first and the last taken from their own modules. -/
abbrev pdd (m : (ℓ : Loc nD τ sig) → Buf (Elt F) ℓ) (outs : Outs (F := F)) := pdatsD (U := UC sig nD τ) (Lvl := ℕ) (Ix := Unit) m outs Variants.none (pd m outs) (fun _ => 0) (fun _ => 0)

/-- The three operands, one by one. -/
theorem bigSep_Hin (Φ : Ref sig .tc → sProp 𝕄) : bigSep Hin Φ = iprop(Φ main_v37 ∗ Φ main_v38 ∗ Φ main_v39) :=
  bigSep_eq_bigSepL_of_eq [main_v37, main_v38, main_v39] (by decide) (by decide) Φ
/-- The array the copies write, alone. -/
theorem bigSep_Hout (Φ : Ref sig .tc → sProp 𝕄) : bigSep Hout Φ = Φ main_v81_0 := bigSep_singleton

/-- Entering the scan: its scratch, its semaphores and its operands make the state before the first chunk. -/
theorem scan_in (m : (ℓ : Loc nD τ sig) → Buf (Elt F) ℓ) (outs : Outs (F := F)) (c : Dev nD) : (iprop(Pipeline.scopedRest spec1 c ∗ (∃ r, prngReg c r) ∗ Pipeline.ownSems0 Scan.osem c
        ∗ (bigSep Hin fun b => ((c.tc : Thread nD τ).loc b) ↦{fullShare} V3 m outs c (Proc.devRef .tc b))
        ∗ (bigSep Hout fun b => ((c.tc : Thread nD τ).loc b) ↦{fullShare} V3 m outs c (Proc.devRef .tc b)) ∗ Transfers.MayWaits (c : Thread nD τ) () 0) : sProp 𝕄) ⊢ Scan.Φn (Ve1 m outs) c 0 := by
      rw [bigSep_Hin, bigSep_Hout]
      unfold Scan.Φn
      iintro ⟨Hr, Hp, Hs, ⟨H1, H2, H3⟩, Ho, -⟩
      isplitl [Hr]; · iexact Hr
      isplitl [Hp]; · iexact Hp
      isplitl [Hs]; · iexact Hs
      isplitl [H1]; · iexact H1
      isplitl [H2]; · iexact H2
      isplitl [H3]; · iexact H3
      iexact Ho
/-- Leaving the scan: the state after the last chunk gives them back, the output filled. -/
theorem scan_out (m : (ℓ : Loc nD τ sig) → Buf (Elt F) ℓ) (outs : Outs (F := F)) (ho : ∀ c : Dev nD, outs 4 main_v81_0 c = Scan.oAt (Ve1 m outs) c cfg1.N) (c : Dev nD) : Scan.Φn (Ve1 m outs) c cfg1.N ⊢ (iprop(Pipeline.scopedRest spec1 c ∗ (∃ r, prngReg c r) ∗ Pipeline.ownSems0 Scan.osem c
        ∗ (bigSep Hin fun b => ((c.tc : Thread nD τ).loc b) ↦{fullShare} V3 m outs c (Proc.devRef .tc b))
        ∗ (bigSep Hout fun b => ((c.tc : Thread nD τ).loc b) ↦{fullShare} V4 m outs c (Proc.devRef .tc b))) : sProp 𝕄) := by
      rw [bigSep_Hin, bigSep_Hout, V4_at_main_v81_0, ho]
      unfold Scan.Φn
      iintro ⟨Hr, Hp, Hs, H1, H2, H3, Ho⟩
      isplitl [Hr]; · iexact Hr
      isplitl [Hp]; · iexact Hp
      isplitl [Hs]; · iexact Hs
      isplitl [H1 H2 H3]
      · isplitl [H1]; · iexact H1
        isplitl [H2]; · iexact H2
        iexact H3
      iexact Ho
/-- The scan's own semaphores are sixteen different cells. -/
theorem scan_sems : Pipeline.OwnSemFacts spec1 Scan.osem := by decide

/-- The scan may wait on its own cells. -/
theorem scan_waits (c : Dev nD) : (levAts lev (fun _ _ => 0) : sProp 𝕄) ⊢ Transfers.MayWaits (c : Thread nD τ) () 0 := by
  iintro -; iapply (Transfers.MayWaits.zero (c : Thread nD τ) ()); iempintro

/-- The scan's body does at every grid point what its data say. -/
theorem scan_body (m : (ℓ : Loc nD τ sig) → Buf (Elt F) ℓ) (outs : Outs (F := F)) (c : Dev nD) : Pipeline.BodyObligationLoose ((pdd m outs) 1 c) defs₀ Variants.none () Set.univ :=
  (Scan.body_obligation Variants.none (Ve1 m outs) c).loose

/-- Every windowed array of the scan ends at the valuation `V4`. -/
theorem scan_arr (m : (ℓ : Loc nD τ sig) → Buf (Elt F) ℓ) (outs : Outs (F := F)) (ho : ∀ c : Dev nD, outs 4 main_v81_0 c = Scan.oAt (Ve1 m outs) c cfg1.N) (ho10 : ∀ c : Dev nD, outs 4 main_v81_1 c = (Scan.dat (Ve1 m outs) c).arrAt 10 cfg1.N) (ho11 : ∀ c : Dev nD, outs 4 main_v81_2 c = (Scan.dat (Ve1 m outs) c).arrAt 11 cfg1.N)
    (c : Dev nD) : (w : Fin cfg1.W) → ((pdd m outs) 1 c).arrAt w cfg1.N = V4 m outs c (Proc.devRef .tc (Pipeline.arrRef spec1 w))
  | 0 => (((pdd m outs) 1 c).arrAt_in 0 rfl _).trans ((Scan.A_eq (Ve1 m outs) c 0).trans (V4_of m outs c (Pipeline.arrRef spec1 0) (by decide)).symm)
  | 1 => (((pdd m outs) 1 c).arrAt_in 1 rfl _).trans ((Scan.A_eq (Ve1 m outs) c 1).trans (V4_of m outs c (Pipeline.arrRef spec1 1) (by decide)).symm)
  | 2 => (((pdd m outs) 1 c).arrAt_in 2 rfl _).trans ((Scan.A_eq (Ve1 m outs) c 2).trans (V4_of m outs c (Pipeline.arrRef spec1 2) (by decide)).symm)
  | 3 => (((pdd m outs) 1 c).arrAt_in 3 rfl _).trans ((Scan.A_eq (Ve1 m outs) c 3).trans (V4_of m outs c (Pipeline.arrRef spec1 3) (by decide)).symm)
  | 4 => (((pdd m outs) 1 c).arrAt_in 4 rfl _).trans ((Scan.A_eq (Ve1 m outs) c 4).trans (V4_of m outs c (Pipeline.arrRef spec1 4) (by decide)).symm)
  | 5 => (((pdd m outs) 1 c).arrAt_in 5 rfl _).trans ((Scan.A_eq (Ve1 m outs) c 5).trans (V4_of m outs c (Pipeline.arrRef spec1 5) (by decide)).symm)
  | 6 => (((pdd m outs) 1 c).arrAt_in 6 rfl _).trans ((Scan.A_eq (Ve1 m outs) c 6).trans (V4_of m outs c (Pipeline.arrRef spec1 6) (by decide)).symm)
  | 7 => (((pdd m outs) 1 c).arrAt_in 7 rfl _).trans ((Scan.A_eq (Ve1 m outs) c 7).trans (V4_of m outs c (Pipeline.arrRef spec1 7) (by decide)).symm)
  | 8 => (((pdd m outs) 1 c).arrAt_in 8 rfl _).trans ((Scan.A_eq (Ve1 m outs) c 8).trans (V4_of m outs c (Pipeline.arrRef spec1 8) (by decide)).symm)
  | 9 => (((pdd m outs) 1 c).arrAt_in 9 rfl _).trans ((Scan.A_eq (Ve1 m outs) c 9).trans (V4_of m outs c (Pipeline.arrRef spec1 9) (by decide)).symm)
  | 10 => ((V4_at_main_v81_1 m outs c).trans (ho10 c)).symm
  | 11 => ((V4_at_main_v81_2 m outs c).trans (ho11 c)).symm

set_option backward.isDefEq.respectTransparency.types false in
/-- The scan's region from the body's run: entered from the held buffers at `V3`, left at `V4`. -/
def R1 (m : (ℓ : Loc nD τ sig) → Buf (Elt F) ℓ) (outs : Outs (F := F)) (h37 : ∀ c : Dev nD, outs 4 main_v37 c = Ve1 m outs c main_v37) (h38 : ∀ c : Dev nD, outs 4 main_v38 c = Ve1 m outs c main_v38) (h39 : ∀ c : Dev nD, outs 4 main_v39 c = Ve1 m outs c main_v39)
    (ho : ∀ c : Dev nD, outs 4 main_v81_0 c = Scan.oAt (Ve1 m outs) c cfg1.N) (ho10 : ∀ c : Dev nD, outs 4 main_v81_1 c = (Scan.dat (Ve1 m outs) c).arrAt 10 cfg1.N) (ho11 : ∀ c : Dev nD, outs 4 main_v81_2 c = (Scan.dat (Ve1 m outs) c).arrAt 11 cfg1.N) :
    RegionSeg (pcfgs (F := F)) adm (pdd m outs) () defs₀ Variants.none lev (fun _ _ => 0) 1 :=
  Pipeline.RegionSeg.ofHeldDW (pcfgs (F := F)) adm (pdd m outs) () defs₀ Variants.none lev (fun _ _ => 0) 1 (fun _ => 0) () Scan.osem scan_sems Hin Hout Sr Hin_sub Hout_sub
    launch1.toP rfl (scan_body m outs) (fun _ _ => rfl) (fun _ => rfl)
    (fun c => ((pdd m outs) 1 c).share_full fun _ => rfl) scan_waits
    (V3 m outs) (V4 m outs) (fun c => rest1_eq m outs h37 h38 h39 c) (scan_in m outs) (scan_out m outs ho)
    (fun _ => 0) (cut 1) (fun _ => iprop(emp)) (fun _ _ => rfl) (scan_arr m outs ho ho10 ho11)

/-- What rides along between the items: the random-number register and the core's own ledger. -/
def rest (c : Dev nD) : sProp 𝕄 := iprop((∃ r, prngReg c r) ∗ ∃ W, owes (c : Thread nD τ) (0 : CellTallies nD τ sig Unit) W)

/-- What is held besides the buffers, taken apart, -/
theorem rest_in (c : Dev nD) : rest (F := F) c ⊢ iprop((∃ r, prngReg c r) ∗ (∃ W, owes (c : Thread nD τ) (0 : CellTallies nD τ sig Unit) W) ∗ emp) := by
  unfold rest
  iintro ⟨Hp, HO⟩
  isplitl [Hp]; · iexact Hp
  isplitl [HO]; · iexact HO
  iempintro
/-- and put together again. -/
theorem rest_out (c : Dev nD) : iprop((∃ r, prngReg c r) ∗ (∃ W, owes (c : Thread nD τ) (0 : CellTallies nD τ sig Unit) W) ∗ emp) ⊢ rest (F := F) c := by
  unfold rest
  iintro ⟨Hp, HO, -⟩
  isplitl [Hp]; · iexact Hp
  iexact HO

section
variable (m : (ℓ : Loc nD τ sig) → Buf (Elt F) ℓ) (outs : Outs (F := F)) (h37 : ∀ c : Dev nD, outs 4 main_v37 c = Ve1 m outs c main_v37) (h38 : ∀ c : Dev nD, outs 4 main_v38 c = Ve1 m outs c main_v38) (h39 : ∀ c : Dev nD, outs 4 main_v39 c = Ve1 m outs c main_v39)
    (ho : ∀ c : Dev nD, outs 4 main_v81_0 c = Scan.oAt (Ve1 m outs) c cfg1.N) (ho10 : ∀ c : Dev nD, outs 4 main_v81_1 c = (Scan.dat (Ve1 m outs) c).arrAt 10 cfg1.N) (ho11 : ∀ c : Dev nD, outs 4 main_v81_2 c = (Scan.dat (Ve1 m outs) c).arrAt 11 cfg1.N)

/-- What is held before the scan is what the scan asks for. -/
theorem pre1 (c : Dev nD) : iprop(StableHlo.held (c : Thread nD τ) (Pipeline.ucRefs τ sig) (V3 m outs c) ∗ rest c) ⊢ (R1 m outs h37 h38 h39 ho ho10 ho11).pre c := by
  show _ ⊢ iprop(StableHlo.held (c : Thread nD τ) (Pipeline.arrRefs (τ := τ) spec1) (V3 m outs c) ∗ (∃ r, prngReg c r)
    ∗ (StableHlo.held (c : Thread nD τ) Sr (V3 m outs c) ∗ emp) ∗ ∃ W, owes (c : Thread nD τ) (0 : CellTallies nD τ sig Unit) W)
  rw [StableHlo.held_sub_split (c : Thread nD τ) arr1_S (V3 m outs c)]
  iintro ⟨⟨Ha, Hr⟩, HE⟩
  ihave HE' := (rest_in c) $$ HE
  icases HE' with ⟨Hp, HO, Hx⟩
  isplitl [Ha]; · iexact Ha
  isplitl [Hp]; · iexact Hp
  isplitl [Hr Hx]; · isplitl [Hr] <;> iassumption
  iexact HO

/-- What the scan leaves is what is held after it. -/
theorem post1 (c : Dev nD) : (R1 m outs h37 h38 h39 ho ho10 ho11).post c ⊢ iprop(StableHlo.held (c : Thread nD τ) (Pipeline.ucRefs τ sig) (V4 m outs c) ∗ rest c) := by
  show iprop(StableHlo.held (c : Thread nD τ) (Pipeline.arrRefs (τ := τ) spec1) (V4 m outs c) ∗ (∃ r, prngReg c r)
    ∗ (StableHlo.held (c : Thread nD τ) Sr (V4 m outs c) ∗ emp) ∗ ∃ W, owes (c : Thread nD τ) (0 : CellTallies nD τ sig Unit) W) ⊢ _
  rw [StableHlo.held_sub_split (c : Thread nD τ) arr1_S (V4 m outs c)]
  iintro ⟨Ha, Hp, ⟨Hr, Hx⟩, HO⟩
  isplitl [Ha Hr]; · isplitl [Ha] <;> iassumption
  iapply (rest_out c)
  isplitl [Hp]; · iexact Hp
  isplitl [HO]; · iexact HO
  iexact Hx
end

/-! ## What the regions leave -/

/-- After the first region: its three results. -/
def A2 (m : (ℓ : Loc nD τ sig) → Buf (Elt F) ℓ) (r : Ref sig .tc) (c : Dev nD) : Buf (Elt F) ((c : Thread nD τ).loc r) :=
  Function.update (β := fun r : Ref sig .tc => Buf (Elt F) ((c : Thread nD τ).loc r)) (Function.update (Function.update (fun r => V1 m c (Proc.devRef .tc r))
    main_v36_0 ((K0.dat (Ix := Unit) (U := UC sig nD τ) (Lvl := ℕ) Variants.none (Ve0 m) (fun _ => 0) c).arrAt 13 cfg0.N))
    main_v36_1 ((K0.dat (Ix := Unit) (U := UC sig nD τ) (Lvl := ℕ) Variants.none (Ve0 m) (fun _ => 0) c).arrAt 14 cfg0.N))
    main_v36_2 ((K0.dat (Ix := Unit) (U := UC sig nD τ) (Lvl := ℕ) Variants.none (Ve0 m) (fun _ => 0) c).arrAt 15 cfg0.N) r

/-- After the scan: its three results. -/
def A4 (m : (ℓ : Loc nD τ sig) → Buf (Elt F) ℓ) (r : Ref sig .tc) (c : Dev nD) : Buf (Elt F) ((c : Thread nD τ).loc r) :=
  Function.update (β := fun r : Ref sig .tc => Buf (Elt F) ((c : Thread nD τ).loc r)) (Function.update (Function.update (fun r => V3 m (fun _ => A2 m) c (Proc.devRef .tc r))
    main_v81_1 ((Scan.dat (Ve1 m (fun _ => A2 m)) c).arrAt 10 cfg1.N))
    main_v81_2 ((Scan.dat (Ve1 m (fun _ => A2 m)) c).arrAt 11 cfg1.N))
    main_v81_0 (Scan.oAt (Ve1 m (fun _ => A2 m)) c cfg1.N) r

/-- The contents up to the scan's end. -/
def outs4 (m : (ℓ : Loc nD τ sig) → Buf (Elt F) ℓ) : Outs (F := F)
  | 4 => A4 m
  | _ => A2 m

/-- After the last region: its result. -/
def A6 (m : (ℓ : Loc nD τ sig) → Buf (Elt F) ℓ) (r : Ref sig .tc) (c : Dev nD) : Buf (Elt F) ((c : Thread nD τ).loc r) :=
  Function.update (β := fun r : Ref sig .tc => Buf (Elt F) ((c : Thread nD τ).loc r)) (fun r => V5 m (outs4 m) c (Proc.devRef .tc r))
    main_v84 ((K2.dat (Ix := Unit) (U := UC sig nD τ) (Lvl := ℕ) Variants.none (Ve2 m (outs4 m)) (fun _ => 0) c).arrAt 7 cfg2.N) r

/-- What each region leaves, item by item. -/
def outs (m : (ℓ : Loc nD τ sig) → Buf (Elt F) ℓ) : Outs (F := F)
  | 4 => A4 m
  | 6 => A6 m
  | _ => A2 m

section
variable (m : (ℓ : Loc nD τ sig) → Buf (Elt F) ℓ) (c : Dev nD)
/-- The first call leaves in the array of `k` what its data say, -/
theorem A2_13 : A2 m main_v36_0 c = (K0.dat (Ix := Unit) (U := UC sig nD τ) (Lvl := ℕ) Variants.none (Ve0 m) (fun _ => 0) c).arrAt 13 cfg0.N := by
  unfold A2
  rw [Function.update_of_ne (by decide), Function.update_of_ne (by decide), Function.update_self]
/-- in the array of `v` likewise, -/
theorem A2_14 : A2 m main_v36_1 c = (K0.dat (Ix := Unit) (U := UC sig nD τ) (Lvl := ℕ) Variants.none (Ve0 m) (fun _ => 0) c).arrAt 14 cfg0.N := by
  unfold A2
  rw [Function.update_of_ne (by decide), Function.update_self]
/-- and in the array of `q`. -/
theorem A2_15 : A2 m main_v36_2 c = (K0.dat (Ix := Unit) (U := UC sig nD τ) (Lvl := ℕ) Variants.none (Ve0 m) (fun _ => 0) c).arrAt 15 cfg0.N := by
  unfold A2
  rw [Function.update_self]
/-- The first call's data are its module's. -/
theorem pdd0 (outs : Outs (F := F)) : (pdd m outs) 0 c = K0.dat (Ix := Unit) (U := UC sig nD τ) (Lvl := ℕ) Variants.none (Ve0 m) (fun _ => 0) c := rfl
/-- The last call's data are its module's. -/
theorem pdd2 (outs : Outs (F := F)) : (pdd m outs) 2 c = K2.dat (Ix := Unit) (U := UC sig nD τ) (Lvl := ℕ) Variants.none (Ve2 m outs) (fun _ => 0) c := rfl
/-- What the first call leaves, among all three. -/
theorem outs_2 : outs m 2 = A2 m := rfl
/-- What the scan leaves, among all three. -/
theorem outs_4 : outs m 4 = A4 m := rfl
/-- What the last call leaves, among all three. -/
theorem outs_6 : outs m 6 = A6 m := rfl
/-- What the first call leaves, among the first two. -/
theorem outs4_2 : outs4 m 2 = A2 m := rfl
/-- What the scan leaves, among the first two. -/
theorem outs4_4 : outs4 m 4 = A4 m := rfl
/-- The values after the first call depend on what that call leaves alone. -/
theorem V2_congr (o o' : Outs (F := F)) (h : o 2 = o' 2) : V2 m o c = V2 m o' c := by unfold V2; rw [h]
/-- The values before the scan depend on what the first call leaves alone. -/
theorem V3_congr (o o' : Outs (F := F)) (h : o 2 = o' 2) : V3 m o c = V3 m o' c := by unfold V3; rw [V2_congr m c o o' h]
/-- The values after the scan depend on what the first two calls leave alone. -/
theorem V4_congr (o o' : Outs (F := F)) (h : o 2 = o' 2) (h4 : o 4 = o' 4) : V4 m o c = V4 m o' c := by unfold V4; rw [V3_congr m c o o' h, h4]
/-- The values before the last call depend on what the first two calls leave alone. -/
theorem V5_congr (o o' : Outs (F := F)) (h : o 2 = o' 2) (h4 : o 4 = o' 4) : V5 m o c = V5 m o' c := by unfold V5; rw [V4_congr m c o o' h h4]
/-- The array of `k` after the first call, by the call's data. -/
theorem o13 : outs m 2 main_v36_0 c = ((pdd m (outs m)) 0 c).arrAt 13 cfg0.N := by
  rw [outs_2, pdd0]; exact A2_13 m c
/-- The array of `v` after the first call, by the call's data. -/
theorem o14 : outs m 2 main_v36_1 c = ((pdd m (outs m)) 0 c).arrAt 14 cfg0.N := by
  rw [outs_2, pdd0]; exact A2_14 m c
/-- The array of `q` after the first call, by the call's data. -/
theorem o15 : outs m 2 main_v36_2 c = ((pdd m (outs m)) 0 c).arrAt 15 cfg0.N := by
  rw [outs_2, pdd0]; exact A2_15 m c
/-- What the scan finds is settled by what the first call leaves. -/
theorem Ve1_eq : Ve1 m (outs m) = Ve1 m (fun _ => A2 m) := by
  funext c b
  exact congrFun (V3_congr m c (outs m) (fun _ => A2 m) (outs_2 m)) (Proc.devRef .tc b)
/-- What the last call finds is settled by what the first two leave. -/
theorem Ve2_eq : Ve2 m (outs m) = Ve2 m (outs4 m) := by
  funext c b
  exact congrFun (V5_congr m c (outs m) (outs4 m) ((outs_2 m).trans (outs4_2 m).symm) ((outs_4 m).trans (outs4_4 m).symm)) (Proc.devRef .tc b)
/-- The scan leaves the operand `k` as it found it, -/
theorem o37 : outs m 4 main_v37 c = Ve1 m (outs m) c main_v37 := by
  rw [outs_4, Ve1_eq]; unfold A4
  rw [Function.update_of_ne (by decide), Function.update_of_ne (by decide), Function.update_of_ne (by decide)]
/-- the operand `v` likewise, -/
theorem o38 : outs m 4 main_v38 c = Ve1 m (outs m) c main_v38 := by
  rw [outs_4, Ve1_eq]; unfold A4
  rw [Function.update_of_ne (by decide), Function.update_of_ne (by decide), Function.update_of_ne (by decide)]
/-- and the operand `q`. -/
theorem o39 : outs m 4 main_v39 c = Ve1 m (outs m) c main_v39 := by
  rw [outs_4, Ve1_eq]; unfold A4
  rw [Function.update_of_ne (by decide), Function.update_of_ne (by decide), Function.update_of_ne (by decide)]
/-- The outputs after the scan are the rows of all its grid points. -/
theorem oO : outs m 4 main_v81_0 c = Scan.oAt (Ve1 m (outs m)) c cfg1.N := by
  rw [outs_4, Ve1_eq]; unfold A4
  rw [Function.update_self]
/-- The final state, by the scan's data. -/
theorem o10 : outs m 4 main_v81_1 c = (Scan.dat (Ve1 m (outs m)) c).arrAt 10 cfg1.N := by
  rw [outs_4, Ve1_eq]; unfold A4
  rw [Function.update_of_ne (by decide), Function.update_of_ne (by decide), Function.update_self]
/-- The final momentum, by the scan's data. -/
theorem o11 : outs m 4 main_v81_2 c = (Scan.dat (Ve1 m (outs m)) c).arrAt 11 cfg1.N := by
  rw [outs_4, Ve1_eq]; unfold A4
  rw [Function.update_of_ne (by decide), Function.update_self]
/-- The last call's result, by the call's data. -/
theorem o7 : outs m 6 main_v84 c = ((pdd m (outs m)) 2 c).arrAt 7 cfg2.N := by
  rw [outs_6, pdd2, Ve2_eq]; unfold A6
  rw [Function.update_self]
end

/-! ## The whole program's run -/

/-- The scan's region at the values the run goes through. -/
abbrev R1m (m : (ℓ : Loc nD τ sig) → Buf (Elt F) ℓ) := R1 m (outs m) (o37 m) (o38 m) (o39 m) (oO m) (o10 m) (o11 m)
/-- The first call's region at the values the run goes through. -/
abbrev R0m (m : (ℓ : Loc nD τ sig) → Buf (Elt F) ℓ) := R0D (Ix := Unit) (U := UC sig nD τ) (Lvl := ℕ) m (outs m) Variants.none lev (fun _ _ => 0) () (pd m (outs m)) (fun _ => 0) (fun _ => 0) (fun _ => 0) (cut 0) (fun _ => iprop(emp)) (o13 m) (o14 m) (o15 m)
/-- The last call's region at the values the run goes through. -/
abbrev R2m (m : (ℓ : Loc nD τ sig) → Buf (Elt F) ℓ) := R2D (Ix := Unit) (U := UC sig nD τ) (Lvl := ℕ) m (outs m) Variants.none lev (fun _ _ => 0) () (pd m (outs m)) (fun _ => 0) (fun _ => 0) (fun _ => 0) (cut 2) (fun _ => iprop(emp)) (o7 m)
/-- What is held besides the buffers, the same between all the calls. -/
abbrev Eall : Fin 4 → Dev nD → sProp 𝕄 := fun _ c => rest c

set_option backward.isDefEq.respectTransparency.types false in
/-- Every run ends with every unscoped buffer at the last valuation and every semaphore at zero. -/
theorem run_all (m : (ℓ : Loc nD τ sig) → Buf (Elt F) ℓ) (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = V7 m (outs m) c b) ∧ r.2.sem = fun _ => 0) := by
  refine Pipeline.θ_run_regions_kit_dev_sems (pcfgs (F := F)) adm (pdd m (outs m)) () cellOf_inj (embL : Emb (URounds (GSem nD τ sig) Unit) 𝕄) defs₀ Variants.none lev (fun _ _ => 0) m ρ main
    (segs m (outs m) Variants.none lev (fun _ _ => 0) Eall () (pdd m (outs m)) (R0m m) (R1m m) (R2m m))
    (fun c Q => by
      rewrite [main_chain c, Seg.run_eq_chain,
        show (segs m (outs m) Variants.none lev (fun _ _ => 0) Eall () (pdd m (outs m)) (R0m m) (R1m m) (R2m m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0) lev_off (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Eall 0 c))
    (Tₙ := fun c => StableHlo.held (c : Thread nD τ) (Pipeline.ucRefs τ sig) (V7 m (outs m) c))
    (hch := fun c => ⟨.rfl,
      hpre0D m (outs m) Variants.none lev (fun _ _ => 0) () (pd m (outs m)) (fun _ => 0) (fun _ => 0) (fun _ => 0) (cut 0) Eall (fun _ => iprop(emp)) rest_in (o13 m) (o14 m) (o15 m) c,
      hpost0D m (outs m) Variants.none lev (fun _ _ => 0) () (pd m (outs m)) (fun _ => 0) (fun _ => 0) (fun _ => 0) (cut 0) Eall (fun _ => iprop(emp)) rest_out (o13 m) (o14 m) (o15 m) c,
      pre1 m (outs m) (o37 m) (o38 m) (o39 m) (oO m) (o10 m) (o11 m) c,
      post1 m (outs m) (o37 m) (o38 m) (o39 m) (oO m) (o10 m) (o11 m) c,
      hpre2D m (outs m) Variants.none lev (fun _ _ => 0) () (pd m (outs m)) (fun _ => 0) (fun _ => 0) (fun _ => 0) (cut 2) Eall (fun _ => iprop(emp)) rest_in (o7 m) c,
      hpost2D m (outs m) Variants.none lev (fun _ _ => 0) () (pd m (outs m)) (fun _ => 0) (fun _ => 0) (fun _ => 0) (cut 2) Eall (fun _ => iprop(emp)) rest_out (o7 m) c,
      sep_mono .rfl (by unfold Eall rest; iintro ⟨-, HO⟩; iexact HO)⟩)
    (hinit := ?_) (QY := fun c s => ∀ b ∈ Pipeline.ucRefs τ sig, s.mem ((c : Thread nD τ).1, b) = V7 m (outs m) c b)
    (hfin := fun c s' => ?_) (hQ := fun _ h hz => ⟨h, funext fun g => hz g (.inr (regions_no_unscoped g.2))⟩)
  · have hone : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
        ⊢ (iprop(StableHlo.held (c : Thread nD τ) (Pipeline.ucRefs τ sig) (V0 m c) ∗ Eall 0 c) : sProp 𝕄) := fun c => by
      rw [← Pipeline.unscopedBufs_held (Ix := Unit) (Name := ℕ) (U := UC sig nD τ) (Lvl := ℕ) c (V0 m c)]
      unfold Eall rest
      iintro ⟨Hb, -, HO, -, Hp, -⟩
      isplitl [Hb]; · iexact Hb
      isplitl [Hp]; · iexists _; iexact Hp
      iexists _; iexact HO
    have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ Eall 0 c) : sProp 𝕄) := bigSep_mono fun c _ => hone c
    iintro ⟨H, -⟩
    imodintro
    ihave H' := hall $$ H
    iexact H'
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro; exact h
    · iexact HSI

/-- Every run leaves every argument as it was and every semaphore at zero. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  (θ_run defs _ _).mono (fun _ h => ⟨fun c => ⟨
    (h.1 c (Proc.devRef .tc main_arg0) (Finset.mem_filter.mpr ⟨StableHlo.devRef_mem_tcRefs main_arg0, by decide⟩)).trans (V7_main_arg0 m (outs m) c),
    (h.1 c (Proc.devRef .tc main_arg1) (Finset.mem_filter.mpr ⟨StableHlo.devRef_mem_tcRefs main_arg1, by decide⟩)).trans (V7_main_arg1 m (outs m) c),
    (h.1 c (Proc.devRef .tc main_arg2) (Finset.mem_filter.mpr ⟨StableHlo.devRef_mem_tcRefs main_arg2, by decide⟩)).trans (V7_main_arg2 m (outs m) c),
    (h.1 c (Proc.devRef .tc main_arg3) (Finset.mem_filter.mpr ⟨StableHlo.devRef_mem_tcRefs main_arg3, by decide⟩)).trans (V7_main_arg3 m (outs m) c),
    (h.1 c (Proc.devRef .tc main_arg4) (Finset.mem_filter.mpr ⟨StableHlo.devRef_mem_tcRefs main_arg4, by decide⟩)).trans (V7_main_arg4 m (outs m) c),
    (h.1 c (Proc.devRef .tc main_arg5) (Finset.mem_filter.mpr ⟨StableHlo.devRef_mem_tcRefs main_arg5, by decide⟩)).trans (V7_main_arg5 m (outs m) c),
    (h.1 c (Proc.devRef .tc main_arg6) (Finset.mem_filter.mpr ⟨StableHlo.devRef_mem_tcRefs main_arg6, by decide⟩)).trans (V7_main_arg6 m (outs m) c),
    (h.1 c (Proc.devRef .tc main_arg7) (Finset.mem_filter.mpr ⟨StableHlo.devRef_mem_tcRefs main_arg7, by decide⟩)).trans (V7_main_arg7 m (outs m) c),
    (h.1 c (Proc.devRef .tc main_arg8) (Finset.mem_filter.mpr ⟨StableHlo.devRef_mem_tcRefs main_arg8, by decide⟩)).trans (V7_main_arg8 m (outs m) c),
    (h.1 c (Proc.devRef .tc main_arg9) (Finset.mem_filter.mpr ⟨StableHlo.devRef_mem_tcRefs main_arg9, by decide⟩)).trans (V7_main_arg9 m (outs m) c),
    (h.1 c (Proc.devRef .tc main_arg10) (Finset.mem_filter.mpr ⟨StableHlo.devRef_mem_tcRefs main_arg10, by decide⟩)).trans (V7_main_arg10 m (outs m) c),
    (h.1 c (Proc.devRef .tc main_arg11) (Finset.mem_filter.mpr ⟨StableHlo.devRef_mem_tcRefs main_arg11, by decide⟩)).trans (V7_main_arg11 m (outs m) c),
    (h.1 c (Proc.devRef .tc main_arg12) (Finset.mem_filter.mpr ⟨StableHlo.devRef_mem_tcRefs main_arg12, by decide⟩)).trans (V7_main_arg12 m (outs m) c),
    (h.1 c (Proc.devRef .tc main_arg13) (Finset.mem_filter.mpr ⟨StableHlo.devRef_mem_tcRefs main_arg13, by decide⟩)).trans (V7_main_arg13 m (outs m) c),
    (h.1 c (Proc.devRef .tc main_arg14) (Finset.mem_filter.mpr ⟨StableHlo.devRef_mem_tcRefs main_arg14, by decide⟩)).trans (V7_main_arg14 m (outs m) c),
    (h.1 c (Proc.devRef .tc main_arg15) (Finset.mem_filter.mpr ⟨StableHlo.devRef_mem_tcRefs main_arg15, by decide⟩)).trans (V7_main_arg15 m (outs m) c),
    (h.1 c (Proc.devRef .tc main_arg16) (Finset.mem_filter.mpr ⟨StableHlo.devRef_mem_tcRefs main_arg16, by decide⟩)).trans (V7_main_arg16 m (outs m) c),
    (h.1 c (Proc.devRef .tc main_arg17) (Finset.mem_filter.mpr ⟨StableHlo.devRef_mem_tcRefs main_arg17, by decide⟩)).trans (V7_main_arg17 m (outs m) c),
    (h.1 c (Proc.devRef .tc main_arg18) (Finset.mem_filter.mpr ⟨StableHlo.devRef_mem_tcRefs main_arg18, by decide⟩)).trans (V7_main_arg18 m (outs m) c),
    (h.1 c (Proc.devRef .tc main_arg19) (Finset.mem_filter.mpr ⟨StableHlo.devRef_mem_tcRefs main_arg19, by decide⟩)).trans (V7_main_arg19 m (outs m) c),
    (h.1 c (Proc.devRef .tc main_arg20) (Finset.mem_filter.mpr ⟨StableHlo.devRef_mem_tcRefs main_arg20, by decide⟩)).trans (V7_main_arg20 m (outs m) c),
    (h.1 c (Proc.devRef .tc main_arg21) (Finset.mem_filter.mpr ⟨StableHlo.devRef_mem_tcRefs main_arg21, by decide⟩)).trans (V7_main_arg21 m (outs m) c),
    (h.1 c (Proc.devRef .tc main_arg22) (Finset.mem_filter.mpr ⟨StableHlo.devRef_mem_tcRefs main_arg22, by decide⟩)).trans (V7_main_arg22 m (outs m) c),
    (h.1 c (Proc.devRef .tc main_arg23) (Finset.mem_filter.mpr ⟨StableHlo.devRef_mem_tcRefs main_arg23, by decide⟩)).trans (V7_main_arg23 m (outs m) c),
    (h.1 c (Proc.devRef .tc main_arg24) (Finset.mem_filter.mpr ⟨StableHlo.devRef_mem_tcRefs main_arg24, by decide⟩)).trans (V7_main_arg24 m (outs m) c)⟩, h.2⟩) (run_all m ρ)

end Cert.KernelIdeal.Own

end
-- ==== Proof.Proj.Math.lean ====
module

public import Idealize.ShloMosaic.Lib.IdealHost
public import Idealize.ShloMosaic.PureOps.Ideal.Laws

@[expose] public section

set_option maxRecDepth 16384

noncomputable section

namespace Cert.HeadNorm

open Idealize.ShloMosaic

/-- The word of 64 denotes 64. -/
theorem ofBits_64 : Ideal.ofBits .f32 0x42800000#32 = ((64 : ℝ) : EReal) := by
  simp [Ideal.ofBits, Ideal.ieee, -EReal.coe_mul]; norm_num

/-- The word of 1/64 denotes 1/64, exactly. -/
theorem ofBits_inv64 : Ideal.ofBits .f32 0x3C800000#32 = ((1 / 64 : ℝ) : EReal) := by
  simp [Ideal.ofBits, Ideal.ieee, -EReal.coe_mul]; norm_num

/-- Channel `d` of the head that channel `l` belongs to. -/
abbrev sib (l : Fin 768) (d : Fin 64) : Fin 768 := ⟨l.val / 64 * 64 + d.val, by omega⟩

/-- The 768 channels are 12 heads of 64. -/
def heads : Fin 12 × Fin 64 ≃ Fin 768 where
  toFun p := ⟨p.1.val * 64 + p.2.val, by omega⟩
  invFun j := (⟨j.val / 64, by omega⟩, ⟨j.val % 64, by omega⟩)
  left_inv p := Prod.ext (Fin.ext (by show (p.1.val * 64 + p.2.val) / 64 = _; omega)) (Fin.ext (by show (p.1.val * 64 + p.2.val) % 64 = _; omega))
  right_inv j := Fin.ext (by show j.val / 64 * 64 + j.val % 64 = _; omega)

/-- A sum over the channels is the sum over the heads of the sums over each head's channels. -/
theorem sum_heads (f : Fin 768 → EReal) : ∑ j, f j = ∑ h : Fin 12, ∑ d : Fin 64, f (heads (h, d)) := by
  rw [← Fintype.sum_prod_type' (fun h d => f (heads (h, d)))]
  exact (heads.sum_comp f).symm

/-- A finite nonnegative factor moves out of a sum of extended reals. -/
theorem sum_mul_const {ι : Type} (s : Finset ι) (f : ι → EReal) (r : ℝ) (hr : 0 ≤ r) :
    ∑ i ∈ s, f i * ((r : ℝ) : EReal) = (∑ i ∈ s, f i) * ((r : ℝ) : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- The channels of head `h` weighted by 1/64 and the others by zero: the head's sum times 1/64. -/
theorem sum_indicator (S : Fin 768 → EReal) (h : Fin 12) (hS : ∀ j, S j = if j.val / 64 = h.val then Ideal.ofBits .f32 0x3C800000#32 else 0)
    (Q : Fin 768 → EReal) : ∑ j, Q j * S j = (∑ d : Fin 64, Q (heads (h, d))) * ((1 / 64 : ℝ) : EReal) := by
  rw [sum_heads, Finset.sum_eq_single h, ← sum_mul_const _ _ _ (by norm_num)]
  · refine Finset.sum_congr rfl fun d _ => ?_
    rw [hS, if_pos (by show (h.val * 64 + d.val) / 64 = _; omega), ofBits_inv64]
  · intro h' _ hne
    refine Finset.sum_eq_zero fun d _ => ?_
    rw [hS, if_neg, mul_zero]
    show ¬ (h'.val * 64 + d.val) / 64 = h.val
    intro e; exact hne (Fin.ext (by omega))
  · intro hn; exact absurd (Finset.mem_univ h) hn

/-- Averaging over a head by two products with the weights `S` — into the head and back to its channels, times 64 —
    is the quotient of the head's sum by 64. -/
theorem average (S : Fin 768 → Fin 12 → EReal)
    (hS : ∀ j h, S j h = if j.val / 64 = h.val then Ideal.ofBits .f32 0x3C800000#32 else 0) (Q : Fin 768 → EReal) (l : Fin 768) :
    (∑ h, (∑ j, Q j * S j h) * S l h) * Ideal.ofBits .f32 0x42800000#32
      = Ideal.div (∑ d : Fin 64, Q (sib l d)) (Ideal.ofBits .f32 0x42800000#32) := by
  rw [ofBits_64, Ideal.div_coe (by norm_num), Finset.sum_eq_single (⟨l.val / 64, by omega⟩ : Fin 12)]
  · rw [sum_indicator (fun j => S j _) _ (fun j => hS j _) Q, hS, if_pos rfl, ofBits_inv64, mul_assoc, ← EReal.coe_mul,
      show ((1 / 64 : ℝ) * 64) = 1 by norm_num, EReal.coe_one, mul_one]
    rfl
  · intro h _ hne
    rw [hS, if_neg, mul_zero]
    intro e; exact hne (Fin.ext e.symm)
  · intro hn; exact absurd (Finset.mem_univ _) hn

/-- The mean of `P` over the head of channel `l`. -/
def mean (P : Fin 768 → EReal) (l : Fin 768) : EReal := Ideal.div (∑ d : Fin 64, P (sib l d)) (Ideal.ofBits .f32 0x42800000#32)

/-- Channels of one head have one mean. -/
theorem mean_sib (P : Fin 768 → EReal) (l : Fin 768) (d : Fin 64) : mean P (sib l d) = mean P l := by
  unfold mean
  have e : (l.val / 64 * 64 + d.val) / 64 = l.val / 64 := by omega
  refine congrArg (Ideal.div · _) (Finset.sum_congr rfl fun d' _ => congrArg P (Fin.ext ?_))
  show (l.val / 64 * 64 + d.val) / 64 * 64 + d'.val = l.val / 64 * 64 + d'.val
  rw [e]

/-- The layer norm over a head, at channel `l`. -/
def norm (P : Fin 768 → EReal) (g b : EReal) (l : Fin 768) : EReal :=
  (P l - mean P l) * Ideal.rsqrt (Ideal.div (∑ d : Fin 64, (P (sib l d) - mean P l) * (P (sib l d) - mean P l))
    (Ideal.ofBits .f32 0x42800000#32) + Ideal.ofBits .f32 0x3727C5AC#32) * g + b

/-- The mean of a row of 768. -/
def rowMean (x : Fin 768 → EReal) : EReal := Ideal.div (∑ j, x j) (Ideal.ofBits .f32 0x44400000#32)

/-- The layer norm of a row of 768, at channel `k`. -/
def rowNorm (x g b : Fin 768 → EReal) (k : Fin 768) : EReal :=
  (x k - rowMean x) * Ideal.rsqrt (Ideal.div (∑ j, (x j - rowMean x) * (x j - rowMean x)) (Ideal.ofBits .f32 0x44400000#32)
    + Ideal.ofBits .f32 0x3727C5AC#32) * g k + b k

end Cert.HeadNorm

end
-- ==== Proof.Proj.Kernel.lean ====
module

public import proofs.«01_k».proof.Proof.Proj.Math
public import proofs.«01_k».proof.Proof.Gen.Kernel2Ideal.Value
public import Idealize.ShloMosaic.Lib.Pipeline.ValueKit
public import Idealize.ShloMosaic.Lib.Pointwise
public import Idealize.ShloMosaic.Lib.Claim
public import Idealize.ShloMosaic.Lib.IdealHost
public import Idealize.ShloMosaic.Lib.StableHlo.ReadAt
public import Idealize.ShloMosaic.PureOps.Ideal.Laws

@[expose] public section

set_option maxRecDepth 16384

noncomputable section

namespace Cert.Kernel2Ideal.Proj

open Cert.Kernel2Ideal Cert.Kernel2Ideal.Gen Idealize.ShloMosaic Idealize.ShloMosaic.TcCoe
open Cert.HeadNorm

variable (m : (ℓ : Loc nD τ sig) → Buf (Elt Ideal) ℓ)

/-- What it is for the matrix `s` to hold 1/64 where a channel is in a head and zero elsewhere. -/
def Weights (s : Vec Ideal S768x12 .f32) : Prop :=
  ∀ (j : Fin 768) (h : Fin 12), s (ix2 j h) = (if j.val / 64 = h.val then Ideal.ofBits .f32 0x3C800000#32 else 0 : EReal)

/-- Row `r` of the product of `n` and `w`, by its channels. -/
def proj (n : Vec Ideal S256x768 .f32) (w : Vec Ideal S768x768 .f32) (r : Fin 256) (l : Fin 768) : EReal :=
  ∑ k, n (ix2 r k) * w (ix2 k l)

/-- The normalised rows. -/
theorem pay2_apply (x : Vec Ideal S1x256x768 .f32) (g b : Vec Ideal S1x768 .f32) (r : Fin 256) (k : Fin 768) :
    k0_pay2 (F := Ideal) x g b (ix2 r k) = rowNorm (fun j => x (ix3 0 r j)) (fun j => g (ix2 0 j)) (fun j => b (ix2 0 j)) k := by
  pointwise [k0_pay2]
  rfl

/-- The first product, at an index. -/
theorem pay4_apply (x : Vec Ideal S1x256x768 .f32) (g b : Vec Ideal S1x768 .f32) (w : Vec Ideal S768x768 .f32) (r : Fin 256) (l : Fin 768) :
    k0_pay4 (F := Ideal) x g b w (ix2 r l) = proj (k0_pay2 (F := Ideal) x g b) w r l := by
  pointwise [k0_pay4]
  rfl

/-- Its mean over the heads. -/
theorem pay5_apply (x : Vec Ideal S1x256x768 .f32) (g b : Vec Ideal S1x768 .f32) (s : Vec Ideal S768x12 .f32) (hs : Weights s)
    (w : Vec Ideal S768x768 .f32) (r : Fin 256) (l : Fin 768) :
    k0_pay5 (F := Ideal) x g b s w (ix2 r l) = mean (proj (k0_pay2 (F := Ideal) x g b) w r) l := by
  pointwise [k0_pay5, k0_pay3]
  refine (average (fun j h => s (ix2 j h)) hs (fun j => k0_pay4 (F := Ideal) x g b w (ix2 r j)) l).trans ?_
  simp only [pay4_apply]
  rfl

/-- The first output: the head-wise layer norm of the first product. -/
theorem pay6_apply (s : Vec Ideal S768x12 .f32) (hs : Weights s) (p q : Vec Ideal S256x768 .f32) (g b : Vec Ideal S1x768 .f32)
    (P : Fin 768 → EReal) (r : Fin 256) (hp : ∀ l, p (ix2 r l) = P l) (hq : ∀ l, q (ix2 r l) = mean P l) (z : Fin 1) (l : Fin 768) :
    k0_pay6 (F := Ideal) s p q g b (ix3 z r l) = norm P (g (ix2 0 l)) (b (ix2 0 l)) l := by
  pointwise [k0_pay6]
  have e := average (fun j h => s (ix2 j h)) hs (fun j => (P j - mean P j) * (P j - mean P j)) l
  simp only [hp, hq, mean_sib] at e ⊢
  rw [e]
  rfl

/-- The second product less its mean over the heads. -/
theorem pay7_apply (n : Vec Ideal S256x768 .f32) (s : Vec Ideal S768x12 .f32) (hs : Weights s) (w : Vec Ideal S768x768 .f32) (r : Fin 256) (l : Fin 768) :
    k0_pay7 (F := Ideal) n s w (ix2 r l) = proj n w r l - mean (proj n w r) l := by
  pointwise [k0_pay7]
  exact congrArg (proj n w r l - ·) (average (fun j h => s (ix2 j h)) hs (proj n w r) l)

/-- Its variance over the heads. -/
theorem pay8_apply (n : Vec Ideal S256x768 .f32) (s : Vec Ideal S768x12 .f32) (hs : Weights s) (w : Vec Ideal S768x768 .f32) (r : Fin 256) (l : Fin 768) :
    k0_pay8 (F := Ideal) n s w (ix2 r l)
      = Ideal.div (∑ d : Fin 64, (proj n w r (sib l d) - mean (proj n w r) l) * (proj n w r (sib l d) - mean (proj n w r) l))
          (Ideal.ofBits .f32 0x42800000#32) + Ideal.ofBits .f32 0x3727C5AC#32 := by
  pointwise [k0_pay8]
  refine congrArg (· + Ideal.ofBits .f32 0x3727C5AC#32) ?_
  refine (average (fun j h => s (ix2 j h)) hs (fun j => k0_pay7 (F := Ideal) n s w (ix2 r j) * k0_pay7 (F := Ideal) n s w (ix2 r j)) l).trans ?_
  simp only [pay7_apply n s hs, mean_sib]

/-- The second output: the head-wise layer norm of the second product. -/
theorem pay9_apply (n : Vec Ideal S256x768 .f32) (s : Vec Ideal S768x12 .f32) (hs : Weights s) (w : Vec Ideal S768x768 .f32) (g b : Vec Ideal S1x768 .f32)
    (z : Fin 1) (r : Fin 256) (l : Fin 768) :
    k0_pay9 (F := Ideal) (k0_pay7 n s w) (k0_pay8 n s w) g b (ix3 z r l) = norm (proj n w r) (g (ix2 0 l)) (b (ix2 0 l)) l := by
  pointwise [k0_pay9]
  rw [pay7_apply n s hs, pay8_apply n s hs]
  rfl

/-- The third output before its offset. -/
theorem pay10_apply (n : Vec Ideal S256x768 .f32) (s : Vec Ideal S768x12 .f32) (hs : Weights s) (w : Vec Ideal S768x768 .f32) (g b : Vec Ideal S1x768 .f32)
    (z : Fin 1) (r : Fin 256) (l : Fin 768) :
    k0_pay1 (F := Ideal) (k0_pay10 n s w g) (k0_pay11 b) (ix3 z r l) = norm (proj n w r) (g (ix2 0 l)) (b (ix2 0 l)) l := by
  pointwise [k0_pay1, k0_pay10, k0_pay11]
  have e := average (fun j h => s (ix2 j h)) hs (fun j => (proj n w r j - mean (proj n w r) j) * (proj n w r j - mean (proj n w r) j)) l
  have e' : ∀ l, (∑ h, (∑ j, (∑ k, n (ix2 r k) * w (ix2 k j)) * s (ix2 j h)) * s (ix2 l h)) * Ideal.ofBits .f32 0x42800000#32 = mean (proj n w r) l :=
    fun l => average (fun j h => s (ix2 j h)) hs (proj n w r) l
  simp only [mean_sib] at e
  simp only [e']
  refine congrArg (fun v => (proj n w r l - mean (proj n w r) l) * Ideal.rsqrt (v + Ideal.ofBits .f32 0x3727C5AC#32) * g (ix2 0 l) + b (ix2 0 l)) ?_
  exact e

/-- The weights that the host computes. -/
theorem weights_host (c : Dev nD) : Weights (V m c main_v35) := by
  intro j h
  have e : V m c main_v35 (ix2 j h) = (FloatOps.uitofp (F := Ideal) .f32
        (IntOp.cmpi .eq (IntOp.addi (BitVec.ofNat 32 (j.val / 64)) 0#32) (BitVec.ofNat 32 h.val))
      * Ideal.ofBits .f32 0x3C800000#32 : EReal) := by
    unfold V
    after_reads_at
  rw [e]
  have hc : IntOp.cmpi .eq (IntOp.addi (BitVec.ofNat 32 (j.val / 64)) 0#32) (BitVec.ofNat 32 h.val) = if j.val / 64 = h.val then 1#1 else 0#1 := by
    have hb : (BitVec.ofNat 32 (j.val / 64) = BitVec.ofNat 32 h.val) ↔ j.val / 64 = h.val := by
      rw [← BitVec.toNat_inj]; simp only [BitVec.toNat_ofNat]; omega
    rw [IntOp.addi, BitVec.add_zero]
    show BitVec.ofBool (BitVec.ofNat 32 (j.val / 64) == BitVec.ofNat 32 h.val) = _
    split
    · next q => rw [hb.2 q, beq_self_eq_true]; rfl
    · next q => rw [beq_eq_false_iff_ne.2 fun e => q (hb.1 e)]; rfl
  rw [hc]
  split
  · rw [show FloatOps.uitofp (F := Ideal) .f32 1#1 = (1 : EReal) from by show (((1#1 : BitVec 1).toNat : ℝ) : EReal) = 1; simp, one_mul]
  · rw [show FloatOps.uitofp (F := Ideal) .f32 0#1 = (0 : EReal) from by show (((0#1 : BitVec 1).toNat : ℝ) : EReal) = 0; simp, zero_mul]

end Cert.Kernel2Ideal.Proj

end
-- ==== Proof.Proj.Blocks.lean ====
module

public import proofs.«01_k».proof.Proof.Proj.Kernel
public import proofs.«01_k».proof.Proof.Gen.Reference2Ideal.Read

@[expose] public section

set_option maxRecDepth 16384

noncomputable section

namespace Cert.Kernel2Ideal.Proj

open Cert.Kernel2Ideal Cert.Kernel2Ideal.Gen Idealize.ShloMosaic Idealize.ShloMosaic.TcCoe
open Cert.HeadNorm Cert.Reference2Ideal.Read

/-- Row `r` of sequence `n` of the reference's first product, by its channels. -/
def rproj (x : FVec Ideal S4x2048x768 .f32) (g b : FVec Ideal S768 .f32) (w : FVec Ideal S768x768 .f32) (n : Fin 4) (r : Fin 2048) (l : Fin 768) : EReal :=
  ∑ k, val_main_v23 (F := Ideal) x g b (ix3 n r k) * w (ix2 k l)

/-- The reference's `k` at an index: the projected row, normalised in its head. -/
theorem refk_apply (x : FVec Ideal S4x2048x768 .f32) (w : FVec Ideal S768x768 .f32) (g b : FVec Ideal S768 .f32) (kg kb : FVec Ideal S64 .f32) (n : Fin 4) (r : Fin 2048) (l : Fin 768) :
    val_main_v106 (F := Ideal) x w g b kg kb (ix3 n r l)
      = norm (rproj x g b w n r) (kg (ix1 ⟨l.val % 64, by omega⟩)) (kb (ix1 ⟨l.val % 64, by omega⟩)) l := by
  pointwise [val_main_v106, val_main_v105, val_main_v50, val_main_v49, val_main_v48, val_main_v47, val_main_v46, val_main_v45, val_main_v44, val_main_v43,
    val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v24,
    val_main_cst_4, val_main_cst_5, val_main_cst_6, val_main_cst_7, val_main_cst_8]
  rfl

/-- The reference's `v` at an index: the projected row, normalised in its head. -/
theorem refv_apply (x : FVec Ideal S4x2048x768 .f32) (w : FVec Ideal S768x768 .f32) (g b : FVec Ideal S768 .f32) (kg kb : FVec Ideal S64 .f32) (n : Fin 4) (r : Fin 2048) (l : Fin 768) :
    val_main_v108 (F := Ideal) x w g b kg kb (ix3 n r l)
      = norm (rproj x g b w n r) (kg (ix1 ⟨l.val % 64, by omega⟩)) (kb (ix1 ⟨l.val % 64, by omega⟩)) l := by
  pointwise [val_main_v108, val_main_v107, val_main_v77, val_main_v76, val_main_v75, val_main_v74, val_main_v73, val_main_v72, val_main_v71, val_main_v70,
    val_main_v69, val_main_v68, val_main_v67, val_main_v66, val_main_v65, val_main_v64, val_main_v63, val_main_v62, val_main_v61,
    val_main_v60, val_main_v59, val_main_v58, val_main_v57, val_main_v56, val_main_v55, val_main_v54, val_main_v53, val_main_v52, val_main_v51,
    val_main_cst_9, val_main_cst_10, val_main_cst_11, val_main_cst_12, val_main_cst_13]
  rfl

/-- The reference's `q` at an index: the projected row, normalised in its head. -/
theorem refq_apply (x : FVec Ideal S4x2048x768 .f32) (w : FVec Ideal S768x768 .f32) (g b : FVec Ideal S768 .f32) (kg kb : FVec Ideal S64 .f32) (n : Fin 4) (r : Fin 2048) (l : Fin 768) :
    val_main_v110 (F := Ideal) x w g b kg kb (ix3 n r l)
      = norm (rproj x g b w n r) (kg (ix1 ⟨l.val % 64, by omega⟩)) (kb (ix1 ⟨l.val % 64, by omega⟩)) l := by
  pointwise [val_main_v110, val_main_v109, val_main_v104, val_main_v103, val_main_v102, val_main_v101, val_main_v100, val_main_v99, val_main_v98, val_main_v97,
    val_main_v96, val_main_v95, val_main_v94, val_main_v93, val_main_v92, val_main_v91, val_main_v90, val_main_v89, val_main_v88,
    val_main_v87, val_main_v86, val_main_v85, val_main_v84, val_main_v83, val_main_v82, val_main_v81, val_main_v80, val_main_v79, val_main_v78,
    val_main_cst_14, val_main_cst_15, val_main_cst_16, val_main_cst_17, val_main_cst_18]
  rfl

variable (m : (ℓ : Loc nD τ sig) → Buf (Elt Ideal) ℓ)

/-- Where each window's block sits, in the grid point's number. -/
theorem idx : ∀ t : Fin cfg0.N,
    win0_0.index t = ![t.val / 8, t.val % 8, 0] ∧ win0_1.index t = ![0, 0] ∧ win0_2.index t = ![0, 0] ∧ win0_3.index t = ![0, 0]
      ∧ win0_4.index t = ![0, 0] ∧ win0_5.index t = ![0, 0] ∧ win0_6.index t = ![0, 0] ∧ win0_7.index t = ![0, 0]
      ∧ win0_8.index t = ![0, 0] ∧ win0_9.index t = ![0, 0] ∧ win0_10.index t = ![0, 0] ∧ win0_11.index t = ![0, 0]
      ∧ win0_12.index t = ![0, 0] ∧ win0_13.index t = ![t.val / 8, t.val % 8, 0] ∧ win0_14.index t = ![t.val / 8, t.val % 8, 0]
      ∧ win0_15.index t = ![t.val / 8, t.val % 8, 0] ∧ t.val / 8 < 4 :=
  (by decide +kernel : ∀ t : Fin grid0.N, _)

/-- The weights' block is the whole matrix. -/
theorem weights (c : Dev nD) (t : Fin cfg0.N) : Weights (iblk m c 6 t) := by
  intro j h
  refine Eq.trans ?_ (weights_host m c j h)
  blk_ext [iblk, idx t]

/-- The reference's normalised rows. -/
theorem refn_apply (x : FVec Ideal S4x2048x768 .f32) (g b : FVec Ideal S768 .f32) (n : Fin 4) (r : Fin 2048) (k : Fin 768) :
    val_main_v23 (F := Ideal) x g b (ix3 n r k) = rowNorm (fun j => x (ix3 n r j)) (fun j => g (ix1 j)) (fun j => b (ix1 j)) k := by
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2, val_main_cst_3]
  rfl

/-- The sequence of a grid point. -/
abbrev sq (t : Fin cfg0.N) : Fin 4 := ⟨t.val / 8, (idx t).2.2.2.2.2.2.2.2.2.2.2.2.2.2.2.2⟩

/-- Where row `r` of a grid point's block sits in its sequence. -/
abbrev rw' (t : Fin cfg0.N) (r : Fin 256) : Fin 2048 := ⟨t.val % 8 * 256 + r.val, by omega⟩

/-- A block of the input, read. -/
theorem blk0 (c : Dev nD) (t : Fin cfg0.N) (r : Fin 256) (j : Fin 768) :
    iblk m c 0 t (ix3 0 r j) = m ((c : Thread nD τ).loc main_arg0) (ix3 (sq t) (rw' t r) j) := by
  blk_ext! [iblk, V, idx t]

/-- The scales of the input's norm, read. -/
theorem blk4 (c : Dev nD) (t : Fin cfg0.N) (j : Fin 768) :
    (iblk m c 4 t (ix2 0 j) : EReal) = m ((c : Thread nD τ).loc main_arg4) (ix1 j) := by
  refine Eq.trans (b := (V m c main_v0 (ix2 0 j) : EReal)) ?_ ?_
  · blk_ext [iblk, idx t]
  · unfold V; after_reads_at

/-- The offsets of the input's norm, read. -/
theorem blk5 (c : Dev nD) (t : Fin cfg0.N) (j : Fin 768) :
    (iblk m c 5 t (ix2 0 j) : EReal) = m ((c : Thread nD τ).loc main_arg5) (ix1 j) := by
  refine Eq.trans (b := (V m c main_v1 (ix2 0 j) : EReal)) ?_ ?_
  · blk_ext [iblk, idx t]
  · unfold V; after_reads_at

/-- The normalised rows of a block are the reference's. -/
theorem rows (c : Dev nD) (t : Fin cfg0.N) (r : Fin 256) (k : Fin 768) :
    k0_pay2 (F := Ideal) (iblk m c 0 t) (iblk m c 4 t) (iblk m c 5 t) (ix2 r k)
      = val_main_v23 (F := Ideal) (m ((c : Thread nD τ).loc main_arg0)) (m ((c : Thread nD τ).loc main_arg4)) (m ((c : Thread nD τ).loc main_arg5))
          (ix3 (sq t) (rw' t r) k) := by
  refine (pay2_apply _ _ _ r k).trans (Eq.trans ?_ (refn_apply _ _ _ _ _ k).symm)
  rw [show (fun j => iblk m c 0 t (ix3 0 r j)) = _ from funext fun j => blk0 m c t r j,
    show (fun j => (iblk m c 4 t (ix2 0 j) : EReal)) = _ from funext fun j => blk4 m c t j,
    show (fun j => (iblk m c 5 t (ix2 0 j) : EReal)) = _ from funext fun j => blk5 m c t j]

/-- So are the rows of a product. -/
theorem proj_eq (c : Dev nD) (t : Fin cfg0.N) (r : Fin 256) (w : Vec Ideal S768x768 .f32) (w' : FVec Ideal S768x768 .f32)
    (hw : ∀ k l, w (ix2 k l) = w' (ix2 k l)) :
    proj (k0_pay2 (F := Ideal) (iblk m c 0 t) (iblk m c 4 t) (iblk m c 5 t)) w r
      = rproj (m ((c : Thread nD τ).loc main_arg0)) (m ((c : Thread nD τ).loc main_arg4)) (m ((c : Thread nD τ).loc main_arg5)) w'
          (sq t) (rw' t r) := by
  funext l
  exact Finset.sum_congr rfl fun k _ => congrArg₂ (· * ·) (rows m c t r k) (hw k l)

/-- The weights recast to their own shape are the weights. -/
theorem weights3 (s : Vec Ideal S768x12 .f32) (hs : Weights s) : Weights (k0_pay3 (F := Ideal) s) := by
  intro j h
  refine Eq.trans ?_ (hs j h)
  pointwise [k0_pay3]

/-- The weight of product `k`, read. -/
theorem blk1 (c : Dev nD) (t : Fin cfg0.N) (k l : Fin 768) :
    iblk m c 1 t (ix2 k l) = m ((c : Thread nD τ).loc main_arg1) (ix2 k l) := by
  blk_ext! [iblk, V, idx t]

/-- A vector of 64, one copy a head, read. -/
theorem blk7 (c : Dev nD) (t : Fin cfg0.N) (l : Fin 768) :
    (iblk m c 7 t (ix2 0 l) : EReal) = m ((c : Thread nD τ).loc main_arg6) (ix1 ⟨l.val % 64, by omega⟩) := by
  refine Eq.trans (b := (V m c main_v5 (ix2 0 l) : EReal)) ?_ ?_
  · blk_ext [iblk, idx t]
  · unfold V; after_reads_at

/-- A vector of 64, one copy a head, read. -/
theorem blk8 (c : Dev nD) (t : Fin cfg0.N) (l : Fin 768) :
    (iblk m c 8 t (ix2 0 l) : EReal) = m ((c : Thread nD τ).loc main_arg7) (ix1 ⟨l.val % 64, by omega⟩) := by
  refine Eq.trans (b := (V m c main_v9 (ix2 0 l) : EReal)) ?_ ?_
  · blk_ext [iblk, idx t]
  · unfold V; after_reads_at

/-- What the body stores for `k`, at an index. -/
theorem point13 (c : Dev nD) (t : Fin cfg0.N) (z : Fin 1) (r : Fin 256) (l : Fin 768) :
    k0_pay6 (F := Ideal) (k0_pay3 (iblk m c 6 t)) (k0_pay4 (iblk m c 0 t) (iblk m c 4 t) (iblk m c 5 t) (iblk m c 1 t)) (k0_pay5 (iblk m c 0 t) (iblk m c 4 t) (iblk m c 5 t) (iblk m c 6 t) (iblk m c 1 t)) (iblk m c 7 t) (iblk m c 8 t) (ix3 z r l)
      = val_main_v106 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (ix3 (sq t) (rw' t r) l) := by
  have hs : Weights (k0_pay3 (F := Ideal) (iblk m c 6 t)) := weights3 _ (weights m c t)
  refine (pay6_apply _ hs _ _ _ _ _ r (pay4_apply _ _ _ _ r) (pay5_apply _ _ _ _ (weights m c t) _ r) z l).trans (Eq.trans ?_ (refk_apply _ _ _ _ _ _ _ _ l).symm)
  rw [proj_eq m c t r _ (m ((c : Thread nD τ).loc main_arg1)) (blk1 m c t), blk7 m c t l, blk8 m c t l]

/-- The weight of product `v`, read. -/
theorem blk2 (c : Dev nD) (t : Fin cfg0.N) (k l : Fin 768) :
    iblk m c 2 t (ix2 k l) = m ((c : Thread nD τ).loc main_arg2) (ix2 k l) := by
  blk_ext! [iblk, V, idx t]

/-- A vector of 64, one copy a head, read. -/
theorem blk9 (c : Dev nD) (t : Fin cfg0.N) (l : Fin 768) :
    (iblk m c 9 t (ix2 0 l) : EReal) = m ((c : Thread nD τ).loc main_arg8) (ix1 ⟨l.val % 64, by omega⟩) := by
  refine Eq.trans (b := (V m c main_v13 (ix2 0 l) : EReal)) ?_ ?_
  · blk_ext [iblk, idx t]
  · unfold V; after_reads_at

/-- A vector of 64, one copy a head, read. -/
theorem blk10 (c : Dev nD) (t : Fin cfg0.N) (l : Fin 768) :
    (iblk m c 10 t (ix2 0 l) : EReal) = m ((c : Thread nD τ).loc main_arg9) (ix1 ⟨l.val % 64, by omega⟩) := by
  refine Eq.trans (b := (V m c main_v17 (ix2 0 l) : EReal)) ?_ ?_
  · blk_ext [iblk, idx t]
  · unfold V; after_reads_at

/-- What the body stores for `v`, at an index. -/
theorem point14 (c : Dev nD) (t : Fin cfg0.N) (z : Fin 1) (r : Fin 256) (l : Fin 768) :
    k0_pay9 (F := Ideal) (k0_pay7 (k0_pay2 (iblk m c 0 t) (iblk m c 4 t) (iblk m c 5 t)) (k0_pay3 (iblk m c 6 t)) (iblk m c 2 t)) (k0_pay8 (k0_pay2 (iblk m c 0 t) (iblk m c 4 t) (iblk m c 5 t)) (k0_pay3 (iblk m c 6 t)) (iblk m c 2 t)) (iblk m c 9 t) (iblk m c 10 t) (ix3 z r l)
      = val_main_v108 (F := Ideal) (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (ix3 (sq t) (rw' t r) l) := by
  have hs : Weights (k0_pay3 (F := Ideal) (iblk m c 6 t)) := weights3 _ (weights m c t)
  refine (pay9_apply _ _ hs _ _ _ z r l).trans (Eq.trans ?_ (refv_apply _ _ _ _ _ _ _ _ l).symm)
  rw [proj_eq m c t r _ (m ((c : Thread nD τ).loc main_arg2)) (blk2 m c t), blk9 m c t l, blk10 m c t l]

/-- The weight of product `q`, read. -/
theorem blk3 (c : Dev nD) (t : Fin cfg0.N) (k l : Fin 768) :
    iblk m c 3 t (ix2 k l) = m ((c : Thread nD τ).loc main_arg3) (ix2 k l) := by
  blk_ext! [iblk, V, idx t]

/-- A vector of 64, one copy a head, read. -/
theorem blk11 (c : Dev nD) (t : Fin cfg0.N) (l : Fin 768) :
    (iblk m c 11 t (ix2 0 l) : EReal) = m ((c : Thread nD τ).loc main_arg10) (ix1 ⟨l.val % 64, by omega⟩) := by
  refine Eq.trans (b := (V m c main_v21 (ix2 0 l) : EReal)) ?_ ?_
  · blk_ext [iblk, idx t]
  · unfold V; after_reads_at

/-- A vector of 64, one copy a head, read. -/
theorem blk12 (c : Dev nD) (t : Fin cfg0.N) (l : Fin 768) :
    (iblk m c 12 t (ix2 0 l) : EReal) = m ((c : Thread nD τ).loc main_arg11) (ix1 ⟨l.val % 64, by omega⟩) := by
  refine Eq.trans (b := (V m c main_v25 (ix2 0 l) : EReal)) ?_ ?_
  · blk_ext [iblk, idx t]
  · unfold V; after_reads_at

/-- What the body stores for `q`, at an index. -/
theorem point15 (c : Dev nD) (t : Fin cfg0.N) (z : Fin 1) (r : Fin 256) (l : Fin 768) :
    k0_pay1 (F := Ideal) (k0_pay10 (k0_pay2 (iblk m c 0 t) (iblk m c 4 t) (iblk m c 5 t)) (k0_pay3 (iblk m c 6 t)) (iblk m c 3 t) (iblk m c 11 t)) (k0_pay11 (iblk m c 12 t)) (ix3 z r l)
      = val_main_v110 (F := Ideal) (m ((c : Thread nD τ).loc main_arg0)) (m ((c : Thread nD τ).loc main_arg3)) (m ((c : Thread nD τ).loc main_arg4)) (m ((c : Thread nD τ).loc main_arg5)) (m ((c : Thread nD τ).loc main_arg10)) (m ((c : Thread nD τ).loc main_arg11)) (ix3 (sq t) (rw' t r) l) := by
  have hs : Weights (k0_pay3 (F := Ideal) (iblk m c 6 t)) := weights3 _ (weights m c t)
  refine (pay10_apply _ _ hs _ _ _ z r l).trans (Eq.trans ?_ (refq_apply _ _ _ _ _ _ _ _ l).symm)
  rw [proj_eq m c t r _ (m ((c : Thread nD τ).loc main_arg3)) (blk3 m c t), blk11 m c t l, blk12 m c t l]

end Cert.Kernel2Ideal.Proj

end
-- ==== Proof.Proj.Final.lean ====
module

public import proofs.«01_k».proof.Proof.Proj.Blocks

@[expose] public section

set_option maxRecDepth 16384

noncomputable section

namespace Cert.Kernel2Ideal.Proj

open Cert.Kernel2Ideal Cert.Kernel2Ideal.Gen Idealize.ShloMosaic Idealize.ShloMosaic.TcCoe
open Cert.HeadNorm Cert.Reference2Ideal.Read

variable (m : (ℓ : Loc nD τ sig) → Buf (Elt Ideal) ℓ)

/-- The normalised rows are those of the first block under the two gains. -/
theorem pay12_eq (c : Dev nD) (t : Fin cfg0.N) : k0_pay12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = k0_pay2 (iblk m c 0 t) (iblk m c 4 t) (iblk m c 5 t) := by
  unfold k0_pay12; frame_out

/-- The averaging weights are those of the seventh block. -/
theorem pay13_eq (c : Dev nD) (t : Fin cfg0.N) : k0_pay13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = k0_pay3 (iblk m c 6 t) := by
  unfold k0_pay13; frame_out

/-- Where an index of the block sits. -/
theorem emb13 (t : Fin cfg0.N) (y : S1x256x768.Idx) :
    (((cfg0.win 13).blk t).view.emb y : S4x2048x768.Idx) = ix3 (sq t) (rw' t (y 1)) (y 2) := by
  blk_ext [idx t]

/-- The same at an index of the block. -/
theorem at13 (c : Dev nD) (t : Fin cfg0.N) (y : S1x256x768.Idx) (k : S4x2048x768.Idx) (hk : k = ix3 (sq t) (rw' t (y 1)) (y 2)) :
    k0_pay6 (F := Ideal) (k0_pay3 (iblk m c 6 t)) (k0_pay4 (iblk m c 0 t) (iblk m c 4 t) (iblk m c 5 t) (iblk m c 1 t)) (k0_pay5 (iblk m c 0 t) (iblk m c 4 t) (iblk m c 5 t) (iblk m c 6 t) (iblk m c 1 t)) (iblk m c 7 t) (iblk m c 8 t) y
      = val_main_v106 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) k := by
  subst hk
  obtain ⟨z, r, l, rfl⟩ : ∃ z r l, y = ix3 z r l := ⟨_, _, _, ValueIdx.eq_ix3 y⟩
  exact point13 m c t z r l

/-- The result array `k` after the run. -/
theorem final13 (c : Dev nD) : (dats m 0 c).arrAt 13 cfg0.N
    = val_main_v106 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t _ y => ?_
  blk_simp
  rw [after0_13]; frame_out
  rw [pay13_eq]
  exact at13 m c t y _ (emb13 t y)

/-- Where an index of the block sits. -/
theorem emb14 (t : Fin cfg0.N) (y : S1x256x768.Idx) :
    (((cfg0.win 14).blk t).view.emb y : S4x2048x768.Idx) = ix3 (sq t) (rw' t (y 1)) (y 2) := by
  blk_ext [idx t]

/-- The same at an index of the block. -/
theorem at14 (c : Dev nD) (t : Fin cfg0.N) (y : S1x256x768.Idx) (k : S4x2048x768.Idx) (hk : k = ix3 (sq t) (rw' t (y 1)) (y 2)) :
    k0_pay9 (F := Ideal) (k0_pay7 (k0_pay2 (iblk m c 0 t) (iblk m c 4 t) (iblk m c 5 t)) (k0_pay3 (iblk m c 6 t)) (iblk m c 2 t)) (k0_pay8 (k0_pay2 (iblk m c 0 t) (iblk m c 4 t) (iblk m c 5 t)) (k0_pay3 (iblk m c 6 t)) (iblk m c 2 t)) (iblk m c 9 t) (iblk m c 10 t) y
      = val_main_v108 (F := Ideal) (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) k := by
  subst hk
  obtain ⟨z, r, l, rfl⟩ : ∃ z r l, y = ix3 z r l := ⟨_, _, _, ValueIdx.eq_ix3 y⟩
  exact point14 m c t z r l

/-- The result array `v` after the run. -/
theorem final14 (c : Dev nD) : (dats m 0 c).arrAt 14 cfg0.N
    = val_main_v108 (F := Ideal) (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) := by
  refine (dats m 0 c).arrAt_eq_of_covers 14 _ (by decide +kernel) fun t _ y => ?_
  blk_simp
  rw [after0_14]; frame_out
  rw [pay12_eq, pay13_eq]
  exact at14 m c t y _ (emb14 t y)

/-- Where an index of the block sits. -/
theorem emb15 (t : Fin cfg0.N) (y : S1x256x768.Idx) :
    (((cfg0.win 15).blk t).view.emb y : S4x2048x768.Idx) = ix3 (sq t) (rw' t (y 1)) (y 2) := by
  blk_ext [idx t]

/-- The same at an index of the block. -/
theorem at15 (c : Dev nD) (t : Fin cfg0.N) (y : S1x256x768.Idx) (k : S4x2048x768.Idx) (hk : k = ix3 (sq t) (rw' t (y 1)) (y 2)) :
    k0_pay1 (F := Ideal) (k0_pay10 (k0_pay2 (iblk m c 0 t) (iblk m c 4 t) (iblk m c 5 t)) (k0_pay3 (iblk m c 6 t)) (iblk m c 3 t) (iblk m c 11 t)) (k0_pay11 (iblk m c 12 t)) y
      = val_main_v110 (F := Ideal) (m ((c : Thread nD τ).loc main_arg0)) (m ((c : Thread nD τ).loc main_arg3)) (m ((c : Thread nD τ).loc main_arg4)) (m ((c : Thread nD τ).loc main_arg5)) (m ((c : Thread nD τ).loc main_arg10)) (m ((c : Thread nD τ).loc main_arg11)) k := by
  subst hk
  obtain ⟨z, r, l, rfl⟩ : ∃ z r l, y = ix3 z r l := ⟨_, _, _, ValueIdx.eq_ix3 y⟩
  exact point15 m c t z r l

/-- The result array `q` after the run. -/
theorem final15 (c : Dev nD) : (dats m 0 c).arrAt 15 cfg0.N
    = val_main_v110 (F := Ideal) (m ((c : Thread nD τ).loc main_arg0)) (m ((c : Thread nD τ).loc main_arg3)) (m ((c : Thread nD τ).loc main_arg4)) (m ((c : Thread nD τ).loc main_arg5)) (m ((c : Thread nD τ).loc main_arg10)) (m ((c : Thread nD τ).loc main_arg11)) := by
  refine (dats m 0 c).arrAt_eq_of_covers 15 _ (by decide +kernel) fun t _ y => ?_
  blk_simp
  rw [after0_15]; frame_out
  rw [pay12_eq, pay13_eq]
  exact at15 m c t y _ (emb15 t y)

end Cert.Kernel2Ideal.Proj

end
-- ==== Proof.Proj.Claim.lean ====
module

public import proofs.«01_k».proof.Defs
public import proofs.«01_k».proof.Proof.Proj.Final
public import proofs.«01_k».proof.Proof.Gen.Kernel2Ideal.Value
public import proofs.«01_k».proof.Proof.Gen.Reference2Ideal.Run
public import proofs.«01_k».proof.Proof.Gen.Reference2Ideal.Read
public import Idealize.ShloMosaic.Lib.Quiescent

@[expose] public section

noncomputable section

namespace Cert.ProjClaim

open Idealize.ShloMosaic Idealize.ShloMosaic.TcCoe Idealize.SL.Sem

/-- The reference's frame: it is host code, so its run keeps every argument and no semaphore moves. -/
theorem frame_reference : Cert.quiescent_Reference2Ideal (hReference2Ideal := Cert.Reference2Ideal.Gen.facts) := fun m g _ =>
  (θ_run Cert.Reference2Ideal.defs _ _).mono (fun _ h => ⟨fun c => (h c).2.2.2, sem_eq_zero_of_no_sems rfl _⟩)
    (Cert.Reference2Ideal.Value.run m g)

/-- Result 0 of the claim: the reference's value over the kernel's arguments. -/
abbrev value0 (m : (ℓ : Loc Cert.Kernel2Ideal.nD Cert.Kernel2Ideal.τ Cert.Kernel2Ideal.sig) → Buf (Elt Ideal) ℓ) (c : Dev Cert.Kernel2Ideal.nD) :
    Buf (Elt Ideal) ((c : Thread Cert.Kernel2Ideal.nD Cert.Kernel2Ideal.τ).loc Cert.Kernel2Ideal.main_v36_0) :=
  Cert.Reference2Ideal.Read.val_main_v106 (F := Ideal) (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg4)) (m ((c : Thread Cert.Kernel2Ideal.nD Cert.Kernel2Ideal.τ).loc Cert.Kernel2Ideal.main_arg5)) (m ((c : Thread Cert.Kernel2Ideal.nD Cert.Kernel2Ideal.τ).loc Cert.Kernel2Ideal.main_arg6)) (m ((c : Thread Cert.Kernel2Ideal.nD Cert.Kernel2Ideal.τ).loc Cert.Kernel2Ideal.main_arg7))

/-- Result 1 of the claim: the reference's value over the kernel's arguments. -/
abbrev value1 (m : (ℓ : Loc Cert.Kernel2Ideal.nD Cert.Kernel2Ideal.τ Cert.Kernel2Ideal.sig) → Buf (Elt Ideal) ℓ) (c : Dev Cert.Kernel2Ideal.nD) :
    Buf (Elt Ideal) ((c : Thread Cert.Kernel2Ideal.nD Cert.Kernel2Ideal.τ).loc Cert.Kernel2Ideal.main_v36_1) :=
  Cert.Reference2Ideal.Read.val_main_v108 (F := Ideal) (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg4)) (m ((c : Thread Cert.Kernel2Ideal.nD Cert.Kernel2Ideal.τ).loc Cert.Kernel2Ideal.main_arg5)) (m ((c : Thread Cert.Kernel2Ideal.nD Cert.Kernel2Ideal.τ).loc Cert.Kernel2Ideal.main_arg8)) (m ((c : Thread Cert.Kernel2Ideal.nD Cert.Kernel2Ideal.τ).loc Cert.Kernel2Ideal.main_arg9))

/-- Result 2 of the claim: the reference's value over the kernel's arguments. -/
abbrev value2 (m : (ℓ : Loc Cert.Kernel2Ideal.nD Cert.Kernel2Ideal.τ Cert.Kernel2Ideal.sig) → Buf (Elt Ideal) ℓ) (c : Dev Cert.Kernel2Ideal.nD) :
    Buf (Elt Ideal) ((c : Thread Cert.Kernel2Ideal.nD Cert.Kernel2Ideal.τ).loc Cert.Kernel2Ideal.main_v36_2) :=
  Cert.Reference2Ideal.Read.val_main_v110 (F := Ideal) (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)) (m ((c : Thread Cert.Kernel2Ideal.nD Cert.Kernel2Ideal.τ).loc Cert.Kernel2Ideal.main_arg5)) (m ((c : Thread Cert.Kernel2Ideal.nD Cert.Kernel2Ideal.τ).loc Cert.Kernel2Ideal.main_arg10)) (m ((c : Thread Cert.Kernel2Ideal.nD Cert.Kernel2Ideal.τ).loc Cert.Kernel2Ideal.main_arg11))

/-- Both run, and from equal arguments each result of the call is the reference's. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨value0 m, value1 m, value2 m,
    (θ_run (Cert.Kernel2Ideal.defs (F := Ideal)) _ _).mono (fun r h c => ?_) (Cert.Kernel2Ideal.Value.run_blocks m g),
    (θ_run (Cert.Reference2Ideal.defs (F := Ideal)) _ _).mono (fun r h c => ?_) (Cert.Reference2Ideal.Value.run m' g')⟩
  · exact ⟨(h c).1.trans (Cert.Kernel2Ideal.Proj.final13 m c), (h c).2.1.trans (Cert.Kernel2Ideal.Proj.final14 m c), (h c).2.2.1.trans (Cert.Kernel2Ideal.Proj.final15 m c), (h c).2.2.2⟩
  · obtain ⟨a0, a1, a2, a3, a4, a5, a6, a7, a8, a9, a10, a11⟩ := hargs c
    refine ⟨(h c).1.trans ?_, (h c).2.1.trans ?_, (h c).2.2.1.trans ?_, (h c).2.2.2⟩
    · refine (Cert.Reference2Ideal.Read.val_main_v106_eq m' c).trans ?_
      rw [a0, a1, a4, a5, a6, a7]
    · refine (Cert.Reference2Ideal.Read.val_main_v108_eq m' c).trans ?_
      rw [a0, a2, a4, a5, a8, a9]
    · refine (Cert.Reference2Ideal.Read.val_main_v110_eq m' c).trans ?_
      rw [a0, a3, a4, a5, a10, a11]

end Cert.ProjClaim

end
-- ==== Proof.Out.Kernel.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Claim
public import Idealize.ShloMosaic.Lib.IdealHost
public import Idealize.ShloMosaic.PureOps.Ideal.Laws

@[expose] public section

set_option maxRecDepth 16384

noncomputable section

namespace Cert.Kernel3Ideal.Out

open Cert.Kernel3Ideal Cert.Kernel3Ideal.Gen Idealize.ShloMosaic Idealize.ShloMosaic.TcCoe
open Cert.Reference3Ideal.Read

variable (m : (ℓ : Loc nD τ sig) → Buf (Elt Ideal) ℓ)

/-- Where each window's block sits, in the grid point's number. -/
theorem idx : ∀ t : Fin cfg0.N,
    win0_0.index t = ![t.val / 8, t.val % 8, 0] ∧ win0_1.index t = ![t.val / 8, t.val % 8, 0]
      ∧ win0_2.index t = ![0, 0] ∧ win0_3.index t = ![0, 0] ∧ win0_4.index t = ![0, 0]
      ∧ win0_5.index t = ![0, 0] ∧ win0_6.index t = ![0, 0] ∧ win0_7.index t = ![t.val / 8, t.val % 8, 0]
      ∧ t.val / 8 < 4 :=
  (by decide +kernel : ∀ t : Fin grid0.N, _)

/-- The reference's result over the kernel's arguments: the gate of the layer-normalised input times the scan's
    outputs through the output matrix. -/
abbrev REF (x : FVec Ideal S4x2048x768 .f32) (o : FVec Ideal S4x2048x12x64 .f32) (wo : FVec Ideal S768x768 .f32)
    (g b : FVec Ideal S768 .f32) (gw : FVec Ideal S768x768 .f32) (gb : FVec Ideal S768 .f32) : FVec Ideal S4x2048x768 .f32 :=
  val_main_v36 (F := Ideal) x o wo g b gw gb

/-- What the body stores at an index of a point's block is the reference's result where that index sits. -/
theorem point (c : Dev nD) (t : Fin cfg0.N) (y) :
    k0_pay1 (F := Ideal) (k0_pay2 (iblk m c 1 t) (iblk m c 2 t)) (k0_pay3 (iblk m c 0 t) (iblk m c 5 t) (iblk m c 6 t) (iblk m c 3 t)) (iblk m c 4 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (((cfg0.win 7).blk t).view.emb y) := by
  pointwise [k0_pay1, k0_pay2, k0_pay3, REF, val_main_v36, val_main_v35, val_main_v34, val_main_v33, val_main_v32, val_main_v31,
    val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2, val_main_cst_3, val_main_cst_4,
    val_main_cst_5, Ideal.logistic]
  blk_point [iblk, V, idx t]

/-- The result array after the run. -/
theorem final (c : Dev nD) : (dats m 0 c).arrAt 7 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]; frame_out
  exact point m c t y

end Cert.Kernel3Ideal.Out

end
-- ==== Proof.Out.Claim.lean ====
module

public import proofs.«01_k».proof.Defs
public import proofs.«01_k».proof.Proof.Out.Kernel
public import proofs.«01_k».proof.Proof.Gen.Kernel3Ideal.Value
public import proofs.«01_k».proof.Proof.Gen.Reference3Ideal.Run
public import proofs.«01_k».proof.Proof.Gen.Reference3Ideal.Read
public import Idealize.ShloMosaic.Lib.Quiescent

@[expose] public section

noncomputable section

namespace Cert.OutClaim

open Idealize.ShloMosaic Idealize.ShloMosaic.TcCoe Idealize.SL.Sem

/-- The reference's frame: it is host code, so its run keeps every argument and no semaphore moves. -/
theorem frame_reference : Cert.quiescent_Reference3Ideal (hReference3Ideal := Cert.Reference3Ideal.Gen.facts) := fun m g _ =>
  (θ_run Cert.Reference3Ideal.defs _ _).mono (fun _ h => ⟨fun c => (h c).2, sem_eq_zero_of_no_sems rfl _⟩)
    (Cert.Reference3Ideal.Value.run m g)

/-- Result 0 of the claim: the reference's value over the kernel's arguments. -/
abbrev value0 (m : (ℓ : Loc Cert.Kernel3Ideal.nD Cert.Kernel3Ideal.τ Cert.Kernel3Ideal.sig) → Buf (Elt Ideal) ℓ) (c : Dev Cert.Kernel3Ideal.nD) :
    Buf (Elt Ideal) ((c : Thread Cert.Kernel3Ideal.nD Cert.Kernel3Ideal.τ).loc Cert.Kernel3Ideal.main_v4) :=
  Cert.Reference3Ideal.Read.val_main_v36 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)) (m ((c : Thread Cert.Kernel3Ideal.nD Cert.Kernel3Ideal.τ).loc Cert.Kernel3Ideal.main_arg6))

/-- Both run, and from equal arguments each result of the call is the reference's. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨value0 m,
    (θ_run (Cert.Kernel3Ideal.defs (F := Ideal)) _ _).mono (fun r h c => ?_) (Cert.Kernel3Ideal.Value.run_blocks m g),
    (θ_run (Cert.Reference3Ideal.defs (F := Ideal)) _ _).mono (fun r h c => ?_) (Cert.Reference3Ideal.Value.run m' g')⟩
  · exact ⟨(h c).1.trans (Cert.Kernel3Ideal.Out.final m c), (h c).2⟩
  · obtain ⟨a0, a1, a2, a3, a4, a5, a6⟩ := hargs c
    refine ⟨(h c).1.trans ?_, (h c).2⟩
    · refine (Cert.Reference3Ideal.Read.val_main_v36_eq _ _ _ _ _ _ _).trans ?_
      rw [a0, a1, a2, a3, a4, a5, a6]

end Cert.OutClaim

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kern.Run
public import proofs.«01_k».proof.Proof.Ideal.Run
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Proj.Claim
public import proofs.«01_k».proof.Proof.Out.Claim
public import Idealize.ShloMosaic.Lib.Quiescent

@[expose] public section

noncomputable section

namespace Cert.Proof

open Idealize.ShloMosaic Idealize.SL.Sem

/-- The kernel's frame, from the run of its whole program. -/
theorem frame_kernel : Cert.quiescent_Kernel := fun m g _ => Cert.Kernel.Own.frame_all (F := Bits) m g

/-- The same over the extended reals. -/
theorem frame_kernelIdeal : Cert.quiescent_KernelIdeal := fun m g _ => Cert.KernelIdeal.Own.frame_all (F := Ideal) m g

/-- The reference's frame: its loop's run keeps every argument, and it has no semaphores. -/
theorem frame_reference : Cert.quiescent_ReferenceIdeal := fun m g _ =>
  (θ_run Cert.ReferenceIdeal.defs _ _).mono (fun _ h => ⟨fun c => (h c).2.2.2, sem_eq_zero_of_no_sems rfl _⟩)
    (Cert.ReferenceIdeal.Value.run m g)

/-- Every claim of the certificate, in its order. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  frame_kernel, frame_kernelIdeal, frame_reference,
  fun m g _ => Cert.Kernel2.Gen.frame m g, fun m g _ => Cert.Kernel2Ideal.Gen.frame m g, Cert.ProjClaim.frame_reference,
  fun m g _ => Cert.Kernel3.Gen.frame m g, fun m g _ => Cert.Kernel3Ideal.Gen.frame m g, Cert.OutClaim.frame_reference,
  trivial, trivial, Cert.ProjClaim.algebraic, trivial, Cert.OutClaim.algebraic⟩

end Cert.Proof

end
